-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite [hPre_finite : Cert.Pre_finite.Facts] (m : (ℓ : Loc Cert.FoxIdeal.nD Cert.FoxIdeal.τ Cert.FoxIdeal.sig) → Buf (Elt Ideal) ℓ) : Prop :=
  ∀ c : Dev Cert.FoxIdeal.nD,
    (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite [hPre_finite : Cert.Pre_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxIdeal_pre_finite [hFoxIdeal : Cert.FoxIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_FoxRefIdeal_pre_finite [hFoxRefIdeal : Cert.FoxRefIdeal.Facts] [hPre_finite : Cert.Pre_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def preserves_Fox_FoxIdeal : Prop :=
  IdealRules.named_const.Statement Cert.FoxIdeal.κ "mask" .f32 0xF149F2CA#32 ⊥

def algebraic_FoxIdeal_FoxRefIdeal_pre_finite [hFoxIdeal : Cert.FoxIdeal.Facts] [hFoxRefIdeal : Cert.FoxRefIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)) →
    ∃ (v0 : (c : Dev Cert.FoxIdeal.nD) → Buf (Elt Ideal) ((c.tc : Thread Cert.FoxIdeal.nD Cert.FoxIdeal.τ).loc Cert.FoxIdeal.main_v41)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v41) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v32) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v28_0)) (v1 : (c : Dev Cert.MergeIdeal.nD) → Buf (Elt Ideal) ((c.tc : Thread Cert.MergeIdeal.nD Cert.MergeIdeal.τ).loc Cert.MergeIdeal.main_v28_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v28_0) = v0 c
          ∧ r.2.mem ((c.tc : Thread Cert.MergeIdeal.nD Cert.MergeIdeal.τ).loc Cert.MergeIdeal.main_v28_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v66) = v0 c
          ∧ r.2.mem ((c.tc : Thread Cert.MergeRefIdeal.nD Cert.MergeRefIdeal.τ).loc Cert.MergeRefIdeal.main_v67) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12))

def Claim : Prop :=
  ∃ (hFox : Cert.Fox.Facts) (hFoxIdeal : Cert.FoxIdeal.Facts) (hFoxRefIdeal : Cert.FoxRefIdeal.Facts) (hMerge : Cert.Merge.Facts) (hMergeIdeal : Cert.MergeIdeal.Facts) (hMergeRefIdeal : Cert.MergeRefIdeal.Facts) (hPre_finite : Cert.Pre_finite.Facts),
    quiescent_Fox (hFox := hFox)
    ∧ quiescent_FoxIdeal (hFoxIdeal := hFoxIdeal)
    ∧ quiescent_FoxIdeal_pre_finite (hFoxIdeal := hFoxIdeal) (hPre_finite := hPre_finite)
    ∧ quiescent_FoxRefIdeal (hFoxRefIdeal := hFoxRefIdeal)
    ∧ quiescent_FoxRefIdeal_pre_finite (hFoxRefIdeal := hFoxRefIdeal) (hPre_finite := hPre_finite)
    ∧ quiescent_Merge (hMerge := hMerge)
    ∧ quiescent_MergeIdeal (hMergeIdeal := hMergeIdeal)
    ∧ quiescent_MergeRefIdeal (hMergeRefIdeal := hMergeRefIdeal)
    ∧ preserves_Fox_FoxIdeal
    ∧ algebraic_FoxIdeal_FoxRefIdeal_pre_finite (hFoxIdeal := hFoxIdeal) (hFoxRefIdeal := hFoxRefIdeal) (hPre_finite := hPre_finite)
    ∧ preserves_Merge_MergeIdeal
    ∧ algebraic_MergeIdeal_MergeRefIdeal (hMergeIdeal := hMergeIdeal) (hMergeRefIdeal := hMergeRefIdeal)
-- ==== Pre_finite.lean ====
abbrev S16x2048x8x64 : Shape := ⟨4, ![16, 2048, 8, 64]⟩
abbrev S16x2048x8 : Shape := ⟨3, ![16, 2048, 8]⟩
abbrev S_ : Shape := ⟨0, ![]⟩

class Facts : Prop where
  bcast_S_S16x2048x8x64 : S_.BroadcastsInDim S16x2048x8x64 (![] : Fin 0 → Fin S16x2048x8x64.rank)
  reducesTo_S16x2048x8x64_S_d0_1_2_3 : S16x2048x8x64.ReducesTo [0, 1, 2, 3] S_
  h_S_ : 0 < S_.numel
  bcast_S_S16x2048x8 : S_.BroadcastsInDim S16x2048x8 (![] : Fin 0 → Fin S16x2048x8.rank)
  reducesTo_S16x2048x8_S_d0_1_2 : S16x2048x8.ReducesTo [0, 1, 2] S_

variable [Facts]

def fn {F : FTy → Type} [FloatOps F] (main_arg0 : FVec F S16x2048x8x64 .f32) (main_arg1 : FVec F S16x2048x8 .f32) (main_arg2 : FVec F S16x2048x8x64 .f32) (main_arg3 : FVec F S16x2048x8x64 .f32) : IVec S_ 1 :=
  let main_v0 : FVec F S16x2048x8x64 .f32 := Host.absf main_arg0
  let main_cst : FVec F S_ .f32 := constant S_ .f32 0x7F800000#32
  let main_v1 : FVec F S16x2048x8x64 .f32 := broadcastInDim S16x2048x8x64 ![] bcast_S_S16x2048x8x64 main_cst
  let main_v2 : IVec S16x2048x8x64 1 := cmpf .olt main_v0 main_v1
  let main_c : IVec S_ 1 := constantI S_ 1 1#1
  let main_v3 : IVec S_ 1 := (fun x v => Host.reduce IntOp.andi x v reducesTo_S16x2048x8x64_S_d0_1_2_3 h_S_) main_v2 main_c
  let main_v4 : FVec F S16x2048x8 .f32 := Host.absf main_arg1
  let main_cst_0 : FVec F S_ .f32 := constant S_ .f32 0x7F800000#32
  let main_v5 : FVec F S16x2048x8 .f32 := broadcastInDim S16x2048x8 ![] bcast_S_S16x2048x8 main_cst_0
  let main_v6 : IVec S16x2048x8 1 := cmpf .olt main_v4 main_v5
  let main_c_1 : IVec S_ 1 := constantI S_ 1 1#1
  let main_v7 : IVec S_ 1 := (fun x v => Host.reduce IntOp.andi x v reducesTo_S16x2048x8_S_d0_1_2 h_S_) main_v6 main_c_1
  let main_v8 : IVec S_ 1 := andi main_v3 main_v7
  let main_v9 : FVec F S16x2048x8x64 .f32 := Host.absf main_arg2
  let main_cst_2 : FVec F S_ .f32 := constant S_ .f32 0x7F800000#32
  let main_v10 : FVec F S16x2048x8x64 .f32 := broadcastInDim S16x2048x8x64 ![] bcast_S_S16x2048x8x64 main_cst_2
  let main_v11 : IVec S16x2048x8x64 1 := cmpf .olt main_v9 main_v10
  let main_c_3 : IVec S_ 1 := constantI S_ 1 1#1
  let main_v12 : IVec S_ 1 := (fun x v => Host.reduce IntOp.andi x v reducesTo_S16x2048x8x64_S_d0_1_2_3 h_S_) main_v11 main_c_3
  let main_v13 : IVec S_ 1 := andi main_v8 main_v12
  main_v13
-- ==== Fox.lean ====
abbrev S16x2048x8x64 : Shape := ⟨4, ![16, 2048, 8, 64]⟩
abbrev S16x2048x8 : Shape := ⟨3, ![16, 2048, 8]⟩
abbrev S_ : Shape := ⟨0, ![]⟩
abbrev S16x2048x8x3 : Shape := ⟨4, ![16, 2048, 8, 3]⟩
abbrev S16x2048x8x61 : Shape := ⟨4, ![16, 2048, 8, 61]⟩
abbrev S16x2048x8x128 : Shape := ⟨4, ![16, 2048, 8, 128]⟩
abbrev S16x8x128x2048 : Shape := ⟨4, ![16, 8, 128, 2048]⟩
abbrev S16x2048x8x1 : Shape := ⟨4, ![16, 2048, 8, 1]⟩
abbrev S16x2048x8x62 : Shape := ⟨4, ![16, 2048, 8, 62]⟩
abbrev S16x2048x8x63 : Shape := ⟨4, ![16, 2048, 8, 63]⟩
abbrev S16x8x2048x128 : Shape := ⟨4, ![16, 8, 2048, 128]⟩
abbrev S16x2048x512 : Shape := ⟨3, ![16, 2048, 512]⟩
abbrev S16x4x512x4x128 : Shape := ⟨5, ![16, 4, 512, 4, 128]⟩
abbrev S16x4x4x128x512 : Shape := ⟨5, ![16, 4, 4, 128, 512]⟩
abbrev S16x4x4x16x512 : Shape := ⟨5, ![16, 4, 4, 16, 512]⟩
abbrev S16x4x4x144x512 : Shape := ⟨5, ![16, 4, 4, 144, 512]⟩
abbrev S1x2x128x2048 : Shape := ⟨4, ![1, 2, 128, 2048]⟩
abbrev S1x2x2048x128 : Shape := ⟨4, ![1, 2, 2048, 128]⟩
abbrev S1x4x1x144x512 : Shape := ⟨5, ![1, 4, 1, 144, 512]⟩
abbrev S1x2048x128 : Shape := ⟨3, ![1, 2048, 128]⟩
abbrev S256x512 : Shape := ⟨2, ![256, 512]⟩
abbrev S256x256 : Shape := ⟨2, ![256, 256]⟩
abbrev S512x128 : Shape := ⟨2, ![512, 128]⟩
abbrev S1x1x128x512 : Shape := ⟨4, ![1, 1, 128, 512]⟩
abbrev S128x512 : Shape := ⟨2, ![128, 512]⟩
abbrev S1x1x256x128 : Shape := ⟨4, ![1, 1, 256, 128]⟩
abbrev S256x128 : Shape := ⟨2, ![256, 128]⟩
abbrev S128x256 : Shape := ⟨2, ![128, 256]⟩
abbrev S1x1x1x144x512 : Shape := ⟨5, ![1, 1, 1, 144, 512]⟩
abbrev S144x512 : Shape := ⟨2, ![144, 512]⟩
abbrev S1x512 : Shape := ⟨2, ![1, 512]⟩
abbrev S512 : Shape := ⟨1, ![512]⟩
abbrev S144x256 : Shape := ⟨2, ![144, 256]⟩
abbrev S1x256 : Shape := ⟨2, ![1, 256]⟩
abbrev S256 : Shape := ⟨1, ![256]⟩
abbrev S1x512x128 : Shape := ⟨3, ![1, 512, 128]⟩

abbrev nBuf : Space → Nat
  | .hbm => 53
  | .vmem => 8
  | .smem => 0
  | _ => 0

abbrev bufTy : (tb : Table) → Fin (tcTables nBuf tb) → BufTy
  | .hbm, ⟨0, _⟩ => ⟨S16x2048x8x64, .f32⟩
  | .hbm, ⟨1, _⟩ => ⟨S16x2048x8, .f32⟩
  | .hbm, ⟨2, _⟩ => ⟨S16x2048x8x64, .f32⟩
  | .hbm, ⟨3, _⟩ => ⟨S16x2048x8x64, .f32⟩
  | .hbm, ⟨4, _⟩ => ⟨S_, .f32⟩
  | .hbm, ⟨5, _⟩ => ⟨S_, .f32⟩
  | .hbm, ⟨6, _⟩ => ⟨S16x2048x8, .f32⟩
  | .hbm, ⟨7, _⟩ => ⟨S16x2048x8, .f32⟩
  | .hbm, ⟨8, _⟩ => ⟨S16x2048x8, .bf16⟩
  | .hbm, ⟨9, _⟩ => ⟨S16x2048x8, .f32⟩
  | .hbm, ⟨10, _⟩ => ⟨S16x2048x8, .f32⟩
  | .hbm, ⟨11, _⟩ => ⟨S16x2048x8, .bf16⟩
  | .hbm, ⟨12, _⟩ => ⟨S16x2048x8, .f32⟩
  | .hbm, ⟨13, _⟩ => ⟨S16x2048x8, .f32⟩
  | .hbm, ⟨14, _⟩ => ⟨S16x2048x8, .bf16⟩
  | .hbm, ⟨15, _⟩ => ⟨S16x2048x8, .f32⟩
  | .hbm, ⟨16, _⟩ => ⟨S_, .f32⟩
  | .hbm, ⟨17, _⟩ => ⟨S16x2048x8x64, .f32⟩
  | .hbm, ⟨18, _⟩ => ⟨S16x2048x8x64, .f32⟩
  | .hbm, ⟨19, _⟩ => ⟨S_, .f32⟩
  | .hbm, ⟨20, _⟩ => ⟨S_, .f32⟩
  | .hbm, ⟨21, _⟩ => ⟨S16x2048x8x64, .f32⟩
  | .hbm, ⟨22, _⟩ => ⟨S16x2048x8x64, .f32⟩
  | .hbm, ⟨23, _⟩ => ⟨S_, .f32⟩
  | .hbm, ⟨24, _⟩ => ⟨S16x2048x8x3, .f32⟩
  | .hbm, ⟨25, _⟩ => ⟨S_, .f32⟩
  | .hbm, ⟨26, _⟩ => ⟨S16x2048x8x61, .f32⟩
  | .hbm, ⟨27, _⟩ => ⟨S16x2048x8x64, .f32⟩
  | .hbm, ⟨28, _⟩ => ⟨S16x2048x8x128, .f32⟩
  | .hbm, ⟨29, _⟩ => ⟨S16x8x128x2048, .f32⟩
  | .hbm, ⟨30, _⟩ => ⟨S16x8x128x2048, .bf16⟩
  | .hbm, ⟨31, _⟩ => ⟨S16x2048x8, .f32⟩
  | .hbm, ⟨32, _⟩ => ⟨S16x2048x8, .f32⟩
  | .hbm, ⟨33, _⟩ => ⟨S16x2048x8, .f32⟩
  | .hbm, ⟨34, _⟩ => ⟨S_, .f32⟩
  | .hbm, ⟨35, _⟩ => ⟨S16x2048x8x61, .f32⟩
  | .hbm, ⟨36, _⟩ => ⟨S16x2048x8x1, .f32⟩
  | .hbm, ⟨37, _⟩ => ⟨S16x2048x8x62, .f32⟩
  | .hbm, ⟨38, _⟩ => ⟨S16x2048x8x1, .f32⟩
  | .hbm, ⟨39, _⟩ => ⟨S16x2048x8x63, .f32⟩
  | .hbm, ⟨40, _⟩ => ⟨S16x2048x8x1, .f32⟩
  | .hbm, ⟨41, _⟩ => ⟨S16x2048x8x64, .f32⟩
  | .hbm, ⟨42, _⟩ => ⟨S16x2048x8x128, .f32⟩
  | .hbm, ⟨43, _⟩ => ⟨S16x8x2048x128, .f32⟩
  | .hbm, ⟨44, _⟩ => ⟨S16x8x2048x128, .bf16⟩
  | .hbm, ⟨45, _⟩ => ⟨S16x2048x512, .f32⟩
  | .hbm, ⟨46, _⟩ => ⟨S16x4x512x4x128, .f32⟩
  | .hbm, ⟨47, _⟩ => ⟨S16x4x4x128x512, .f32⟩
  | .hbm, ⟨48, _⟩ => ⟨S_, .f32⟩
  | .hbm, ⟨49, _⟩ => ⟨S16x4x4x16x512, .f32⟩
  | .hbm, ⟨50, _⟩ => ⟨S16x4x4x144x512, .f32⟩
  | .hbm, ⟨51, _⟩ => ⟨S16x4x4x144x512, .bf16⟩
  | .hbm, ⟨52, _⟩ => ⟨S16x2048x512, .bf16⟩
  | .local _ .vmem, ⟨0, _⟩ => ⟨S1x2x128x2048, .bf16⟩
  | .local _ .vmem, ⟨1, _⟩ => ⟨S1x2x128x2048, .bf16⟩
  | .local _ .vmem, ⟨2, _⟩ => ⟨S1x2x2048x128, .bf16⟩
  | .local _ .vmem, ⟨3, _⟩ => ⟨S1x2x2048x128, .bf16⟩
  | .local _ .vmem, ⟨4, _⟩ => ⟨S1x4x1x144x512, .bf16⟩
  | .local _ .vmem, ⟨5, _⟩ => ⟨S1x4x1x144x512, .bf16⟩
  | .local _ .vmem, ⟨6, _⟩ => ⟨S1x2048x128, .bf16⟩
  | .local _ .vmem, ⟨7, _⟩ => ⟨S1x2048x128, .bf16⟩
  | _, _ => ⟨S16x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x1x144x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FoxIdeal.lean ====
variable {F : FTy → Type} [FloatOps F] [Named F]
def κ : String → Option EReal := fun
  | "mask" => some ⊥
  | _ => none
-- ==== FoxRefIdeal.lean ====
abbrev S16x2048x8x64 : Shape := ⟨4, ![16, 2048, 8, 64]⟩
abbrev S16x2048x8 : Shape := ⟨3, ![16, 2048, 8]⟩
abbrev S2048 : Shape := ⟨1, ![2048]⟩
abbrev S16x8x2048x2048 : Shape := ⟨4, ![16, 8, 2048, 2048]⟩
abbrev S_ : Shape := ⟨0, ![]⟩
abbrev S16x8x2048 : Shape := ⟨3, ![16, 8, 2048]⟩
abbrev S16x8x2048x1 : Shape := ⟨4, ![16, 8, 2048, 1]⟩
abbrev S16x8x1x2048 : Shape := ⟨4, ![16, 8, 1, 2048]⟩
abbrev S1x2048 : Shape := ⟨2, ![1, 2048]⟩
abbrev S2048x1 : Shape := ⟨2, ![2048, 1]⟩
abbrev S2048x2048 : Shape := ⟨2, ![2048, 2048]⟩
abbrev S16x8x64x2048 : Shape := ⟨4, ![16, 8, 64, 2048]⟩
abbrev S16x2048x512 : Shape := ⟨3, ![16, 2048, 512]⟩

abbrev nBuf : Space → Nat
  | .hbm => 45
  | .vmem => 0
  | .smem => 0
  | _ => 0

abbrev bufTy : (tb : Table) → Fin (tcTables nBuf tb) → BufTy
  | .hbm, ⟨0, _⟩ => ⟨S16x2048x8x64, .f32⟩
  | .hbm, ⟨1, _⟩ => ⟨S16x2048x8, .f32⟩
  | .hbm, ⟨2, _⟩ => ⟨S16x2048x8x64, .f32⟩
  | .hbm, ⟨3, _⟩ => ⟨S16x2048x8x64, .f32⟩
  | .hbm, ⟨4, _⟩ => ⟨S2048, .i32⟩
  | .hbm, ⟨5, _⟩ => ⟨S16x8x2048x2048, .f32⟩
  | .hbm, ⟨6, _⟩ => ⟨S_, .f32⟩
  | .hbm, ⟨7, _⟩ => ⟨S16x8x2048x2048, .f32⟩
  | .hbm, ⟨8, _⟩ => ⟨S16x8x2048x2048, .f32⟩
  | .hbm, ⟨9, _⟩ => ⟨S16x8x2048, .f32⟩
  | .hbm, ⟨10, _⟩ => ⟨S16x8x2048x1, .f32⟩
  | .hbm, ⟨11, _⟩ => ⟨S16x8x2048, .f32⟩
  | .hbm, ⟨12, _⟩ => ⟨S16x8x1x2048, .f32⟩
  | .hbm, ⟨13, _⟩ => ⟨S16x8x2048x2048, .f32⟩
  | .hbm, ⟨14, _⟩ => ⟨S16x8x2048x2048, .f32⟩
  | .hbm, ⟨15, _⟩ => ⟨S16x8x2048x2048, .f32⟩
  | .hbm, ⟨16, _⟩ => ⟨S1x2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S16x8x2048x2048, .f32⟩
  | .hbm, ⟨22, _⟩ => ⟨S_, .f32⟩
  | .hbm, ⟨23, _⟩ => ⟨S_, .f32⟩
  | .hbm, ⟨24, _⟩ => ⟨S16x8x2048x2048, .i1⟩
  | .hbm, ⟨25, _⟩ => ⟨S16x8x2048x2048, .f32⟩
  | .hbm, ⟨26, _⟩ => ⟨S16x8x2048x2048, .f32⟩
  | .hbm, ⟨27, _⟩ => ⟨S_, .f32⟩
  | .hbm, ⟨28, _⟩ => ⟨S16x8x2048, .f32⟩
  | .hbm, ⟨29, _⟩ => ⟨S_, .f32⟩
  | .hbm, ⟨30, _⟩ => ⟨S16x8x2048, .f32⟩
  | .hbm, ⟨31, _⟩ => ⟨S16x8x2048, .f32⟩
  | .hbm, ⟨32, _⟩ => ⟨S16x8x2048x1, .f32⟩
  | .hbm, ⟨33, _⟩ => ⟨S16x8x2048x2048, .f32⟩
  | .hbm, ⟨34, _⟩ => ⟨S16x8x2048x2048, .f32⟩
  | .hbm, ⟨35, _⟩ => ⟨S16x8x2048x2048, .f32⟩
  | .hbm, ⟨36, _⟩ => ⟨S_, .f32⟩
  | .hbm, ⟨37, _⟩ => ⟨S16x8x2048, .f32⟩
  | .hbm, ⟨38, _⟩ => ⟨S16x8x2048x1, .f32⟩
  | .hbm, ⟨39, _⟩ => ⟨S16x8x2048x2048, .f32⟩
  | .hbm, ⟨40, _⟩ => ⟨S16x8x2048x2048, .f32⟩
  | .hbm, ⟨41, _⟩ => ⟨S16x8x64x2048, .f32⟩
  | .hbm, ⟨42, _⟩ => ⟨S16x2048x8x64, .f32⟩
  | .hbm, ⟨43, _⟩ => ⟨S16x2048x512, .f32⟩
  | .hbm, ⟨44, _⟩ => ⟨S16x2048x512, .bf16⟩
  | _, _ => ⟨S16x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Merge.lean ====
abbrev S16x2048x1024 : Shape := ⟨3, ![16, 2048, 1024]⟩
abbrev S16x2048x8x64 : Shape := ⟨4, ![16, 2048, 8, 64]⟩
abbrev S16x2048x4x128 : Shape := ⟨4, ![16, 2048, 4, 128]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S_ : Shape := ⟨0, ![]⟩
abbrev S16x2048x2048 : Shape := ⟨3, ![16, 2048, 2048]⟩
abbrev S32768x2048 : Shape := ⟨2, ![32768, 2048]⟩
abbrev S16x2x5632 : Shape := ⟨3, ![16, 2, 5632]⟩
abbrev S32768x1024 : Shape := ⟨2, ![32768, 1024]⟩
abbrev S32768x512 : Shape := ⟨2, ![32768, 512]⟩
abbrev S512x512 : Shape := ⟨2, ![512, 512]⟩
abbrev S512x2048 : Shape := ⟨2, ![512, 2048]⟩
abbrev S1x2x5632 : Shape := ⟨3, ![1, 2, 5632]⟩
abbrev S8x5632 : Shape := ⟨2, ![8, 5632]⟩
abbrev S4x520x256 : Shape := ⟨3, ![4, 520, 256]⟩
abbrev S512x2816 : Shape := ⟨2, ![512, 2816]⟩
abbrev S2x5632 : Shape := ⟨2, ![2, 5632]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x256 : Shape := ⟨2, ![1, 256]⟩
abbrev S2x256 : Shape := ⟨2, ![2, 256]⟩
abbrev S1x2x256 : Shape := ⟨3, ![1, 2, 256]⟩
abbrev S1x512x256 : Shape := ⟨3, ![1, 512, 256]⟩
abbrev S512x1280 : Shape := ⟨2, ![512, 1280]⟩
abbrev S1280x1024 : Shape := ⟨2, ![1280, 1024]⟩
abbrev S512x1536 : Shape := ⟨2, ![512, 1536]⟩
abbrev S1536x1024 : Shape := ⟨2, ![1536, 1024]⟩

abbrev nBuf : Space → Nat
  | .hbm => 48
  | .vmem => 25
  | .smem => 0
  | _ => 0

abbrev bufTy : (tb : Table) → Fin (tcTables nBuf tb) → BufTy
  | .hbm, ⟨0, _⟩ => ⟨S16x2048x1024, .f32⟩
  | .hbm, ⟨1, _⟩ => ⟨S16x2048x8x64, .f32⟩
  | .hbm, ⟨2, _⟩ => ⟨S16x2048x4x128, .f32⟩
  | .hbm, ⟨3, _⟩ => ⟨S16x2048x1024, .f32⟩
  | .hbm, ⟨4, _⟩ => ⟨S16x2048x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x5632, .f32⟩
  | .hbm, ⟨10, _⟩ => ⟨S3x5632, .f32⟩
  | .hbm, ⟨11, _⟩ => ⟨S5632, .f32⟩
  | .hbm, ⟨12, _⟩ => ⟨S2816x1024, .f32⟩
  | .hbm, ⟨13, _⟩ => ⟨S512x1024, .bf16⟩
  | .hbm, ⟨14, _⟩ => ⟨S512x1024, .bf16⟩
  | .hbm, ⟨15, _⟩ => ⟨S1024x1024, .bf16⟩
  | .hbm, ⟨16, _⟩ => ⟨S1x1024, .f32⟩
  | .hbm, ⟨17, _⟩ => ⟨S1024x5632, .bf16⟩
  | .hbm, ⟨18, _⟩ => ⟨S1x5632, .f32⟩
  | .hbm, ⟨19, _⟩ => ⟨S2816x1024, .bf16⟩
  | .hbm, ⟨20, _⟩ => ⟨S16x2048x1024, .f32⟩
  | .hbm, ⟨21, _⟩ => ⟨S16x2048x1024, .f32⟩
  | .hbm, ⟨22, _⟩ => ⟨S_, .f32⟩
  | .hbm, ⟨23, _⟩ => ⟨S16x2048x1024, .f32⟩
  | .hbm, ⟨24, _⟩ => ⟨S16x2048x1024, .f32⟩
  | .hbm, ⟨25, _⟩ => ⟨S_, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S_, .f32⟩
  | .hbm, ⟨31, _⟩ => ⟨S16x2048x1024, .f32⟩
  | .hbm, ⟨32, _⟩ => ⟨S16x2048x1024, .f32⟩
  | .hbm, ⟨33, _⟩ => ⟨S_, .f32⟩
  | .hbm, ⟨34, _⟩ => ⟨S16x2048x1024, .f32⟩
  | .hbm, ⟨35, _⟩ => ⟨S16x2048x1024, .f32⟩
  | .hbm, ⟨36, _⟩ => ⟨S16x2048x2048, .f32⟩
  | .hbm, ⟨37, _⟩ => ⟨S32768x2048, .f32⟩
  | .hbm, ⟨38, _⟩ => ⟨S32768x2048, .bf16⟩
  | .hbm, ⟨39, _⟩ => ⟨S_, .f32⟩
  | .hbm, ⟨40, _⟩ => ⟨S16x2x5632, .f32⟩
  | .hbm, ⟨41, _⟩ => ⟨S32768x1024, .f32⟩
  | .hbm, ⟨42, _⟩ => ⟨S32768x512, .f32⟩
  | .hbm, ⟨43, _⟩ => ⟨S32768x512, .bf16⟩
  | .hbm, ⟨44, _⟩ => ⟨S32768x512, .f32⟩
  | .hbm, ⟨45, _⟩ => ⟨S32768x512, .bf16⟩
  | .hbm, ⟨46, _⟩ => ⟨S32768x1024, .f32⟩
  | .hbm, ⟨47, _⟩ => ⟨S16x2x5632, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x5632, .bf16⟩
  | .local _ .vmem, ⟨13, _⟩ => ⟨S3x5632, .f32⟩
  | .local _ .vmem, ⟨14, _⟩ => ⟨S1x5632, .f32⟩
  | .local _ .vmem, ⟨15, _⟩ => ⟨S2816x1024, .bf16⟩
  | .local _ .vmem, ⟨16, _⟩ => ⟨S1x2x5632, .f32⟩
  | .local _ .vmem, ⟨17, _⟩ => ⟨S1x2x5632, .f32⟩
  | .local _ .vmem, ⟨18, _⟩ => ⟨S512x1024, .f32⟩
  | .local _ .vmem, ⟨19, _⟩ => ⟨S512x1024, .f32⟩
  | .local _ .vmem, ⟨20, _⟩ => ⟨S1x2x5632, .f32⟩
  | .local _ .vmem, ⟨21, _⟩ => ⟨S1x2x5632, .f32⟩
  | .local _ .vmem, ⟨22, _⟩ => ⟨S8x5632, .f32⟩
  | .local _ .vmem, ⟨23, _⟩ => ⟨S4x520x256, .f32⟩
  | .local _ .vmem, ⟨24, _⟩ => ⟨S512x2816, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28_0 : Ref sig .tc := ⟨.hbm, 46, rfl⟩
abbrev main_v28_1 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x2x5632 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x2x5632 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeRefIdeal.lean ====
abbrev S16x2048x1024 : Shape := ⟨3, ![16, 2048, 1024]⟩
abbrev S16x2048x8x64 : Shape := ⟨4, ![16, 2048, 8, 64]⟩
abbrev S16x2048x4x128 : Shape := ⟨4, ![16, 2048, 4, 128]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16x2048x512 : Shape := ⟨3, ![16, 2048, 512]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2x5632 : Shape := ⟨3, ![16, 2, 5632]⟩
abbrev S16x2050x5632 : Shape := ⟨3, ![16, 2050, 5632]⟩
abbrev S1x5632 : Shape := ⟨2, ![1, 5632]⟩
abbrev S1x1x5632 : Shape := ⟨3, ![1, 1, 5632]⟩
abbrev S16x2048x2816 : Shape := ⟨3, ![16, 2048, 2816]⟩
abbrev S32768x1024 : Shape := ⟨2, ![32768, 1024]⟩

abbrev nBuf : Space → Nat
  | .hbm => 97
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x8x64, .f32⟩
  | .hbm, ⟨2, _⟩ => ⟨S16x2048x4x128, .f32⟩
  | .hbm, ⟨3, _⟩ => ⟨S16x2048x1024, .f32⟩
  | .hbm, ⟨4, _⟩ => ⟨S16x2048x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x5632, .f32⟩
  | .hbm, ⟨10, _⟩ => ⟨S3x5632, .f32⟩
  | .hbm, ⟨11, _⟩ => ⟨S5632, .f32⟩
  | .hbm, ⟨12, _⟩ => ⟨S2816x1024, .f32⟩
  | .hbm, ⟨13, _⟩ => ⟨S16x2048x512, .f32⟩
  | .hbm, ⟨14, _⟩ => ⟨S16x2048x1024, .f32⟩
  | .hbm, ⟨15, _⟩ => ⟨S16x2048x512, .f32⟩
  | .hbm, ⟨16, _⟩ => ⟨S16x2048x1024, .f32⟩
  | .hbm, ⟨17, _⟩ => ⟨S16x2048x1024, .f32⟩
  | .hbm, ⟨18, _⟩ => ⟨S16x2048x1024, .f32⟩
  | .hbm, ⟨19, _⟩ => ⟨S_, .f32⟩
  | .hbm, ⟨20, _⟩ => ⟨S16x2048x1024, .f32⟩
  | .hbm, ⟨21, _⟩ => ⟨S16x2048x1024, .f32⟩
  | .hbm, ⟨22, _⟩ => ⟨S_, .f32⟩
  | .hbm, ⟨23, _⟩ => ⟨S16x2048x1024, .f32⟩
  | .hbm, ⟨24, _⟩ => ⟨S16x2048x1024, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S16x2048x1024, .f32⟩
  | .hbm, ⟨30, _⟩ => ⟨S16x2048x1024, .f32⟩
  | .hbm, ⟨31, _⟩ => ⟨S_, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S_, .f32⟩
  | .hbm, ⟨40, _⟩ => ⟨S16x2048, .f32⟩
  | .hbm, ⟨41, _⟩ => ⟨S16x2048x1, .f32⟩
  | .hbm, ⟨42, _⟩ => ⟨S_, .f32⟩
  | .hbm, ⟨43, _⟩ => ⟨S16x2048x1, .f32⟩
  | .hbm, ⟨44, _⟩ => ⟨S16x2048x1, .f32⟩
  | .hbm, ⟨45, _⟩ => ⟨S_, .f32⟩
  | .hbm, ⟨46, _⟩ => ⟨S16x2048x1, .f32⟩
  | .hbm, ⟨47, _⟩ => ⟨S16x2048x1, .f32⟩
  | .hbm, ⟨48, _⟩ => ⟨S16x2048x1, .f32⟩
  | .hbm, ⟨49, _⟩ => ⟨S16x2048x1024, .f32⟩
  | .hbm, ⟨50, _⟩ => ⟨S16x2048x1024, .f32⟩
  | .hbm, ⟨51, _⟩ => ⟨S1x1x1024, .f32⟩
  | .hbm, ⟨52, _⟩ => ⟨S16x2048x1024, .f32⟩
  | .hbm, ⟨53, _⟩ => ⟨S16x2048x1024, .f32⟩
  | .hbm, ⟨54, _⟩ => ⟨S16x2048x5632, .f32⟩
  | .hbm, ⟨55, _⟩ => ⟨S_, .f32⟩
  | .hbm, ⟨56, _⟩ => ⟨S16x2x5632, .f32⟩
  | .hbm, ⟨57, _⟩ => ⟨S16x2050x5632, .f32⟩
  | .hbm, ⟨58, _⟩ => ⟨S1x5632, .f32⟩
  | .hbm, ⟨59, _⟩ => ⟨S5632, .f32⟩
  | .hbm, ⟨60, _⟩ => ⟨S16x2048x5632, .f32⟩
  | .hbm, ⟨61, _⟩ => ⟨S1x1x5632, .f32⟩
  | .hbm, ⟨62, _⟩ => ⟨S16x2048x5632, .f32⟩
  | .hbm, ⟨63, _⟩ => ⟨S16x2048x5632, .f32⟩
  | .hbm, ⟨64, _⟩ => ⟨S1x5632, .f32⟩
  | .hbm, ⟨65, _⟩ => ⟨S5632, .f32⟩
  | .hbm, ⟨66, _⟩ => ⟨S16x2048x5632, .f32⟩
  | .hbm, ⟨67, _⟩ => ⟨S1x1x5632, .f32⟩
  | .hbm, ⟨68, _⟩ => ⟨S16x2048x5632, .f32⟩
  | .hbm, ⟨69, _⟩ => ⟨S16x2048x5632, .f32⟩
  | .hbm, ⟨70, _⟩ => ⟨S16x2048x5632, .f32⟩
  | .hbm, ⟨71, _⟩ => ⟨S1x5632, .f32⟩
  | .hbm, ⟨72, _⟩ => ⟨S5632, .f32⟩
  | .hbm, ⟨73, _⟩ => ⟨S16x2048x5632, .f32⟩
  | .hbm, ⟨74, _⟩ => ⟨S1x1x5632, .f32⟩
  | .hbm, ⟨75, _⟩ => ⟨S16x2048x5632, .f32⟩
  | .hbm, ⟨76, _⟩ => ⟨S16x2048x5632, .f32⟩
  | .hbm, ⟨77, _⟩ => ⟨S16x2048x5632, .f32⟩
  | .hbm, ⟨78, _⟩ => ⟨S1x1x5632, .f32⟩
  | .hbm, ⟨79, _⟩ => ⟨S16x2048x5632, .f32⟩
  | .hbm, ⟨80, _⟩ => ⟨S16x2048x5632, .f32⟩
  | .hbm, ⟨81, _⟩ => ⟨S16x2048x2816, .f32⟩
  | .hbm, ⟨82, _⟩ => ⟨S16x2048x2816, .f32⟩
  | .hbm, ⟨83, _⟩ => ⟨S16x2048x2816, .f32⟩
  | .hbm, ⟨84, _⟩ => ⟨S16x2048x2816, .f32⟩
  | .hbm, ⟨85, _⟩ => ⟨S_, .f32⟩
  | .hbm, ⟨86, _⟩ => ⟨S16x2048x2816, .f32⟩
  | .hbm, ⟨87, _⟩ => ⟨S16x2048x2816, .f32⟩
  | .hbm, ⟨88, _⟩ => ⟨S_, .f32⟩
  | .hbm, ⟨89, _⟩ => ⟨S16x2048x2816, .f32⟩
  | .hbm, ⟨90, _⟩ => ⟨S16x2048x2816, .f32⟩
  | .hbm, ⟨91, _⟩ => ⟨S16x2048x2816, .f32⟩
  | .hbm, ⟨92, _⟩ => ⟨S16x2048x2816, .f32⟩
  | .hbm, ⟨93, _⟩ => ⟨S16x2048x1024, .f32⟩
  | .hbm, ⟨94, _⟩ => ⟨S16x2048x1024, .f32⟩
  | .hbm, ⟨95, _⟩ => ⟨S32768x1024, .f32⟩
  | .hbm, ⟨96, _⟩ => ⟨S16x2x5632, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_call0_v0 : Ref sig .tc := ⟨.hbm, 83, rfl⟩
abbrev main_call0_v1 : Ref sig .tc := ⟨.hbm, 84, rfl⟩
abbrev main_call0_cst : Ref sig .tc := ⟨.hbm, 85, rfl⟩
abbrev main_call0_v2 : Ref sig .tc := ⟨.hbm, 86, rfl⟩
abbrev main_call0_v3 : Ref sig .tc := ⟨.hbm, 87, rfl⟩
abbrev main_call0_cst_0 : Ref sig .tc := ⟨.hbm, 88, rfl⟩
abbrev main_call0_v4 : Ref sig .tc := ⟨.hbm, 89, rfl⟩
abbrev main_call0_v5 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩

abbrev nD : Nat := 1
abbrev τ : Topo := Topo.v7x

variable {F : FTy → Type} [FloatOps F]
-- ==== Proof.Fox.Entry.lean ====
/- The kernel's three operands at the region's entry, read at an index: the query tiles, the key tiles and the value slabs. -/
module

public import proofs.«01_k».proof.Proof.Gen.FoxIdeal.Value
public import Idealize.ShloMosaic.Lib.Pipeline.ValueKit
public import Idealize.ShloMosaic.Lib.Claim

@[expose] public section

set_option maxRecDepth 16384

noncomputable section

namespace Cert.FoxIdeal.Attn

open Idealize.ShloMosaic Idealize.ShloMosaic.TcCoe Idealize.SL.Sem Cert.FoxIdeal Cert.FoxIdeal.Gen
open Idealize.ShloMosaic.Pipeline (Dat)

variable (m : (ℓ : Loc nD τ sig) → Buf (Elt Ideal) ℓ) (c : Dev nD)

/-- The logarithm of two, as the host program computes it. -/
abbrev ln2 : EReal := Ideal.log (Ideal.ofBits FTy.f32 0x40000000#32)
/-- A cumulated gate in base two. -/
abbrev cum (x : EReal) : EReal := Ideal.div x ln2

/-- The queries, the cumulated gates, the keys and the values, as the kernel is given them. -/
abbrev qArg : FVec Ideal S16x2048x8x64 .f32 := m ((c : Thread nD τ).loc main_arg0)
abbrev cArg : FVec Ideal S16x2048x8 .f32 := m ((c : Thread nD τ).loc main_arg1)
abbrev kArg : FVec Ideal S16x2048x8x64 .f32 := m ((c : Thread nD τ).loc main_arg2)
abbrev vArg : FVec Ideal S16x2048x8x64 .f32 := m ((c : Thread nD τ).loc main_arg3)

/-- The query tile: the scaled query over three ones. -/
theorem q_at (b : Fin 16) (h : Fin 8) (d : Fin 128) (t : Fin 2048) : (V m c main_v21 (ix4 b h d t) : EReal) =
    if hd : d.val < 64 then Ideal.div ((qArg m c (ix4 b t h ⟨d.val, hd⟩) : EReal) * Ideal.ofBits FTy.f32 0x3E000000#32) ln2
    else if d.val - 64 < 3 then (1 : EReal) else 0 := by
  entry_read
  pointwise
  rfl

/-- The key tile: the key beside the three pieces of its negated gate in base two. -/
theorem k_at (b : Fin 16) (h : Fin 8) (t : Fin 2048) (d : Fin 128) : (V m c main_v34 (ix4 b h t d) : EReal) =
    if hd : d.val < 64 then kArg m c (ix4 b t h ⟨d.val, hd⟩)
    else if d.val - 64 < 1 then -cum (cArg m c (ix3 b t h))
    else if d.val - 64 - 1 < 1 then -(cum (cArg m c (ix3 b t h)) - cum (cArg m c (ix3 b t h)))
    else if d.val - 64 - 1 - 1 < 1 then
      -(cum (cArg m c (ix3 b t h)) - cum (cArg m c (ix3 b t h)) - (cum (cArg m c (ix3 b t h)) - cum (cArg m c (ix3 b t h))))
    else (0 : EReal) := by
  entry_read
  pointwise
  rfl

/-- The value slab: 128 value rows over ones. -/
theorem v_at (b : Fin 16) (n g : Fin 4) (r : Fin 144) (e : Fin 512) : (V m c main_v40 (ix5 b n g r e) : EReal) =
    if hr : r.val < 128 then (vArg m c (ix4 b ⟨n.val * 512 + e.val, by omega⟩ ⟨g.val * 2 + r.val / 64, by omega⟩ ⟨r.val % 64, by omega⟩) : EReal)
    else (1 : EReal) := by
  entry_read
  pointwise

end Cert.FoxIdeal.Attn

end
-- ==== Proof.Attend.Model.lean ====
/- The two-pass attention of one block of queries, as the pallas_call's body computes it, written once over
   vectors: scores of 256 keys at a time, a running maximum and a running sum rescaled to it. The body's stored
   values are instances of `emit` below, for each of the four blocks of 512 queries. -/
module

public import proofs.«01_k».proof.Proof.Gen.FoxIdeal.Frame

@[expose] public section

set_option maxRecDepth 16384

noncomputable section

namespace Cert.Attend

open Idealize.ShloMosaic Idealize.SL.Sem Cert.FoxIdeal Cert.FoxIdeal.Gen

abbrev QT := Vec Ideal S1x1x128x512 .bf16
abbrev KT := Vec Ideal S1x1x256x128 .bf16
abbrev VT := Vec Ideal S1x1x1x144x512 .bf16
abbrev MF := FVec Ideal S1x512 .f32
abbrev AF := FVec Ideal S144x512 .f32

/-- The query tile of one head as a matrix. -/
def qmat (q : QT) : FVec Ideal S128x512 .bf16 := shapeCast S128x512 q shapeCasts_S1x1x128x512_S128x512
/-- The key tile of one head as a matrix. -/
def kmat (k : KT) : FVec Ideal S256x128 .bf16 := shapeCast S256x128 k shapeCasts_S1x1x256x128_S256x128
/-- The value slab as a matrix. -/
def vmat (v : VT) : FVec Ideal S144x512 .bf16 := shapeCast S144x512 v shapeCasts_S1x1x1x144x512_S144x512

/-- The scores of 256 keys against 512 queries. -/
def score (k : KT) (q : QT) : FVec Ideal S256x512 .f32 :=
  matmul dot_S256x128_S128x512_S256x512_1_0_0_1_n_n none (kmat k) (qmat q) (constant S256x512 .f32 0x00000000#32)
/-- The scores of 256 keys against the last 256 of the 512 queries. -/
def scoreBot (k : KT) (q : QT) : FVec Ideal S256x256 .f32 :=
  matmul dot_S256x128_S128x256_S256x256_1_0_0_1_n_n none (kmat k)
    (extractStridedSlice S128x256 ![0, 256] (qmat q) slices_S128x512_o0_256_S128x256) (constant S256x256 .f32 0x00000000#32)

/-- The running maximum after the scores `s`. -/
def mNew (s : FVec Ideal S256x512 .f32) (m : MF) : MF :=
  maximumf m (shapeCast S1x512 (multiReduction .maximumf [0] S512 s 0xFF800000#32 reduces_S256x512_S512 (.inl rfl) rfl) shapeCasts_S512_S1x512)

/-- The running sum after the scores `s`, the running maximum going from `m` to `m'`. -/
def accum (s : FVec Ideal S256x512 .f32) (m m' : MF) (v : FVec Ideal S144x256 .bf16) (a : AF) : AF :=
  addf (mulf (broadcastTo S144x512 (exp2 (subf m m')) broadcasts_S1x512_S144x512) a)
    (matmul dot_S144x256_S256x512_S144x512_1_0_0_1_n_n none v
      (truncf .bf16 (exp2 (subf s (broadcastTo S256x512 m' broadcasts_S1x512_S256x512))) bitsLt_bf16_f32)
      (constant S144x512 .f32 0x00000000#32))

def vL (v : VT) : FVec Ideal S144x256 .bf16 := extractStridedSlice S144x256 ![0, 0] (vmat v) slices_S144x512_o0_0_S144x256
def vR (v : VT) : FVec Ideal S144x256 .bf16 := extractStridedSlice S144x256 ![0, 256] (vmat v) slices_S144x512_o0_256_S144x256

/-- The running maximum after the 512 keys of a block before the queries' own. -/
def offM (q : QT) (k1 k2 : KT) (m : MF) : MF := mNew (score k2 q) (mNew (score k1 q) m)
/-- The running sum after the 512 keys of a block before the queries' own. -/
def offA (q : QT) (k1 k2 : KT) (v : VT) (m : MF) (a : AF) : AF :=
  accum (score k2 q) (mNew (score k1 q) m) (offM q k1 k2 m) (vR v) (accum (score k1 q) m (mNew (score k1 q) m) (vL v) a)

/-- The running maximum of the last 256 queries after the scores `s`. -/
def mBot (s : FVec Ideal S256x256 .f32) (m : FVec Ideal S1x256 .f32) : FVec Ideal S1x256 .f32 :=
  maximumf m (shapeCast S1x256 (multiReduction .maximumf [0] S256 s 0xFF800000#32 reduces_S256x256_S256 (.inl rfl) rfl) shapeCasts_S256_S1x256)
/-- The running sum of the last 256 queries after the scores `s`. -/
def aBot (s : FVec Ideal S256x256 .f32) (m m' : FVec Ideal S1x256 .f32) (v : FVec Ideal S144x256 .bf16)
    (a : FVec Ideal S144x256 .f32) : FVec Ideal S144x256 .f32 :=
  addf (mulf (broadcastTo S144x256 (exp2 (subf m m')) broadcasts_S1x256_S144x256) a)
    (matmul dot_S144x256_S256x256_S144x256_1_0_0_1_n_n none v
      (truncf .bf16 (exp2 (subf s (broadcastTo S256x256 m' broadcasts_S1x256_S256x256))) bitsLt_bf16_f32)
      (constant S144x256 .f32 0x00000000#32))
def mHalf (m : MF) : FVec Ideal S1x256 .f32 := extractStridedSlice S1x256 ![0, 256] m slices_S1x512_o0_256_S1x256
def aHalf (a : AF) : FVec Ideal S144x256 .f32 := extractStridedSlice S144x256 ![0, 256] a slices_S144x512_o0_256_S144x256
def aKept (a : AF) : FVec Ideal S144x256 .f32 := extractStridedSlice S144x256 ![0, 0] a slices_S144x512_o0_0_S144x256

/-- The first half of the queries' own block: 256 keys against all the queries, with the bias. -/
def topS (bt : FVec Ideal S256x512 .f32) (q : QT) (k : KT) : FVec Ideal S256x512 .f32 := addf (score k q) bt
/-- The second half: 256 keys against the last 256 queries, with the bias. -/
def botS (bb : FVec Ideal S256x256 .f32) (q : QT) (k : KT) : FVec Ideal S256x256 .f32 := addf (scoreBot k q) bb
def topA (bt : FVec Ideal S256x512 .f32) (q : QT) (k1 : KT) (v : VT) (m : MF) (a : AF) : AF :=
  accum (topS bt q k1) m (mNew (topS bt q k1) m) (vL v) a
def topM (bt : FVec Ideal S256x512 .f32) (q : QT) (k1 : KT) (m : MF) : MF := mNew (topS bt q k1) m
def botA (bb : FVec Ideal S256x256 .f32) (q : QT) (k2 : KT) (v : VT) (m : MF) (a : AF) : FVec Ideal S144x256 .f32 :=
  aBot (botS bb q k2) (mHalf m) (mBot (botS bb q k2) (mHalf m)) (vR v) (aHalf a)
/-- The sum after the queries' own block. -/
def diagA (bt : FVec Ideal S256x512 .f32) (bb : FVec Ideal S256x256 .f32) (q : QT) (k1 k2 : KT) (v : VT) (m : MF) (a : AF) : AF :=
  concatenate S144x512 1 [⟨S144x256, aKept (topA bt q k1 v m a)⟩, ⟨S144x256, botA bb q k2 v (topM bt q k1 m) (topA bt q k1 v m a)⟩]
    concatenates_S144x256_S144x256_S144x512_d1

/-- The sums over the ones row's sum, transposed: the head's output of 512 queries. -/
def quot (a : AF) : FVec Ideal S512x128 .f32 :=
  transpose S512x128 [1, 0] (divf (extractStridedSlice S128x512 ![0, 0] a slices_S144x512_o0_0_S128x512)
    (broadcastTo S128x512 (extractStridedSlice S1x512 ![128, 0] a slices_S144x512_o128_0_S1x512) broadcasts_S1x512_S128x512))
    transposes_S128x512_p1_0_S512x128

def m0 (mask : Ideal .f32) : MF := broadcast S1x512 mask
def a0 : AF := broadcast S144x512 (Scalar.ofBits (F := Ideal) .f32 0x00000000#32)

section
variable (mask : Ideal .f32) (bt : FVec Ideal S256x512 .f32) (bb : FVec Ideal S256x256 .f32) (q : QT)
/-- One head's sums for the first block of 512 queries. -/
def blk0 (k1 k2 : KT) (v : VT) : AF := diagA bt bb q k1 k2 v (m0 mask) a0
/-- … the second block … -/
def blk1 (k1 k2 k3 k4 : KT) (v v' : VT) : AF :=
  diagA bt bb q k3 k4 v' (offM q k1 k2 (m0 mask)) (offA q k1 k2 v (m0 mask) a0)
/-- … the third block … -/
def blk2 (k1 k2 k3 k4 k5 k6 : KT) (v v' v'' : VT) : AF :=
  diagA bt bb q k5 k6 v'' (offM q k3 k4 (offM q k1 k2 (m0 mask)))
    (offA q k3 k4 v' (offM q k1 k2 (m0 mask)) (offA q k1 k2 v (m0 mask) a0))
/-- … the fourth block. -/
def blk3 (k1 k2 k3 k4 k5 k6 k7 k8 : KT) (v v' v'' v''' : VT) : AF :=
  diagA bt bb q k7 k8 v''' (offM q k5 k6 (offM q k3 k4 (offM q k1 k2 (m0 mask))))
    (offA q k5 k6 v'' (offM q k3 k4 (offM q k1 k2 (m0 mask)))
      (offA q k3 k4 v' (offM q k1 k2 (m0 mask)) (offA q k1 k2 v (m0 mask) a0)))
end

end Cert.Attend

end
-- ==== Proof.Fox.Pieces.lean ====
/- The four values the forgetting attention's body stores are the block attention of `Attend.Model`, block by block. -/
module

public import proofs.«01_k».proof.Proof.Attend.Model

@[expose] public section

set_option maxRecDepth 16384

noncomputable section

namespace Cert.FoxIdeal.Attn

open Idealize.ShloMosaic Idealize.SL.Sem Cert.FoxIdeal Cert.FoxIdeal.Gen Cert.Attend

/-- What the two heads of a group store: the first head's output in the lanes below 64, the second's in the others. -/
def emit (a b : AF) : FVec Ideal S1x512x128 .bf16 :=
  shapeCast S1x512x128 (truncf .bf16 (select (cmpi .slt (iota .tc S512x128 32 [1] iota_S512x128_d1_w32) (broadcast S512x128 64#32))
    (quot a) (quot b)) bitsLt_bf16_f32) shapeCasts_S512x128_S1x512x128

abbrev mask : Ideal .f32 := Named.named κ "mask" (φ := .f32) 0xF149F2CA#32

variable (x0 : Vec Ideal S1x2x128x2048 .bf16) (x1 : Vec Ideal S1x2x2048x128 .bf16) (x2 : Vec Ideal S1x4x1x144x512 .bf16)

def piece0 : FVec Ideal S1x512x128 .bf16 :=
  emit (blk0 mask k0_pay2 k0_pay3 (View.ld x0 r0_0) (View.ld x1 r0_1) (View.ld x1 r0_2) (View.ld x2 r0_8))
    (blk0 mask k0_pay2 k0_pay3 (View.ld x0 r0_3) (View.ld x1 r0_4) (View.ld x1 r0_5) (View.ld x2 r0_8))
def piece1 : FVec Ideal S1x512x128 .bf16 :=
  emit (blk1 mask k0_pay2 k0_pay3 (View.ld x0 r0_6) (View.ld x1 r0_1) (View.ld x1 r0_2) (View.ld x1 r0_10) (View.ld x1 r0_11) (View.ld x2 r0_8) (View.ld x2 r0_16))
    (blk1 mask k0_pay2 k0_pay3 (View.ld x0 r0_7) (View.ld x1 r0_4) (View.ld x1 r0_5) (View.ld x1 r0_12) (View.ld x1 r0_13) (View.ld x2 r0_8) (View.ld x2 r0_16))
def piece2 : FVec Ideal S1x512x128 .bf16 :=
  emit (blk2 mask k0_pay2 k0_pay3 (View.ld x0 r0_14) (View.ld x1 r0_1) (View.ld x1 r0_2) (View.ld x1 r0_10) (View.ld x1 r0_11)
      (View.ld x1 r0_18) (View.ld x1 r0_19) (View.ld x2 r0_8) (View.ld x2 r0_16) (View.ld x2 r0_24))
    (blk2 mask k0_pay2 k0_pay3 (View.ld x0 r0_15) (View.ld x1 r0_4) (View.ld x1 r0_5) (View.ld x1 r0_12) (View.ld x1 r0_13)
      (View.ld x1 r0_20) (View.ld x1 r0_21) (View.ld x2 r0_8) (View.ld x2 r0_16) (View.ld x2 r0_24))
def piece3 : FVec Ideal S1x512x128 .bf16 :=
  emit (blk3 mask k0_pay2 k0_pay3 (View.ld x0 r0_22) (View.ld x1 r0_1) (View.ld x1 r0_2) (View.ld x1 r0_10) (View.ld x1 r0_11)
      (View.ld x1 r0_18) (View.ld x1 r0_19) (View.ld x1 r0_26) (View.ld x1 r0_27) (View.ld x2 r0_8) (View.ld x2 r0_16) (View.ld x2 r0_24) (View.ld x2 r0_30))
    (blk3 mask k0_pay2 k0_pay3 (View.ld x0 r0_23) (View.ld x1 r0_4) (View.ld x1 r0_5) (View.ld x1 r0_12) (View.ld x1 r0_13)
      (View.ld x1 r0_20) (View.ld x1 r0_21) (View.ld x1 r0_28) (View.ld x1 r0_29) (View.ld x2 r0_8) (View.ld x2 r0_16) (View.ld x2 r0_24) (View.ld x2 r0_30))

/-- The output block after the body: its four stores. -/
theorem out_eq : out0_3 x0 x1 x2 = View.canon [⟨r0_31, piece3 x0 x1 x2⟩, ⟨r0_25, piece2 x0 x1 x2⟩, ⟨r0_17, piece1 x0 x1 x2⟩, ⟨r0_9, piece0 x0 x1 x2⟩] := rfl

end Cert.FoxIdeal.Attn

end
-- ==== Proof.Attend.Read.lean ====
/- The vectors of `Attend.Model` read at an index: scalar formulas over the extended reals. -/
module

public import proofs.«01_k».proof.Proof.Attend.Model
public import Idealize.ShloMosaic.Lib.Pointwise

@[expose] public section

set_option maxRecDepth 16384

noncomputable section

namespace Cert.Attend

/-- The pattern of minus infinity denotes it. -/
theorem ofBits_neg_inf : Idealize.ShloMosaic.Ideal.ofBits .f32 0xFF800000#32 = ⊥ := by
  simp [Idealize.ShloMosaic.Ideal.ofBits, Idealize.ShloMosaic.Ideal.ieee]

open Idealize.ShloMosaic Idealize.ShloMosaic.TcCoe Idealize.SL.Sem Cert.FoxIdeal Cert.FoxIdeal.Gen

theorem score_at (k : KT) (q : QT) (e : Fin 256) (c : Fin 512) :
    score k q (ix2 e c) = ∑ d : Fin 128, k (ix4 0 0 e d) * q (ix4 0 0 d c) := by
  pointwise [score, kmat, qmat]

theorem scoreBot_at (k : KT) (q : QT) (e : Fin 256) (c : Fin 256) :
    scoreBot k q (ix2 e c) = ∑ d : Fin 128, k (ix4 0 0 e d) * q (ix4 0 0 d ⟨256 + c.val, by omega⟩) := by
  pointwise [scoreBot, kmat, qmat]

theorem mNew_at (s : FVec Ideal S256x512 .f32) (m : MF) (c : Fin 512) :
    mNew s m (ix2 0 c) = max (m (ix2 0 c)) (Finset.univ.fold max ⊥ fun e : Fin 256 => s (ix2 e c)) := by
  pointwise [mNew]
  rw [ofBits_neg_inf]

theorem mBot_at (s : FVec Ideal S256x256 .f32) (m : FVec Ideal S1x256 .f32) (c : Fin 256) :
    mBot s m (ix2 0 c) = max (m (ix2 0 c)) (Finset.univ.fold max ⊥ fun e : Fin 256 => s (ix2 e c)) := by
  pointwise [mBot]
  rw [ofBits_neg_inf]

theorem accum_at (s : FVec Ideal S256x512 .f32) (m m' : MF) (v : FVec Ideal S144x256 .bf16) (a : AF) (r : Fin 144) (c : Fin 512) :
    accum s m m' v a (ix2 r c) = Ideal.exp2 (m (ix2 0 c) - m' (ix2 0 c)) * a (ix2 r c)
      + ∑ e : Fin 256, v (ix2 r e) * Ideal.exp2 (s (ix2 e c) - m' (ix2 0 c)) := by
  pointwise [accum]
  rfl

theorem aBot_at (s : FVec Ideal S256x256 .f32) (m m' : FVec Ideal S1x256 .f32) (v : FVec Ideal S144x256 .bf16) (a : FVec Ideal S144x256 .f32) (r : Fin 144) (c : Fin 256) :
    aBot s m m' v a (ix2 r c) = Ideal.exp2 (m (ix2 0 c) - m' (ix2 0 c)) * a (ix2 r c)
      + ∑ e : Fin 256, v (ix2 r e) * Ideal.exp2 (s (ix2 e c) - m' (ix2 0 c)) := by
  pointwise [aBot]
  rfl

theorem vL_at (v : VT) (r : Fin 144) (e : Fin 256) : vL v (ix2 r e) = v (ix5 0 0 0 r ⟨e.val, by omega⟩) := by
  pointwise [vL, vmat]
theorem vR_at (v : VT) (r : Fin 144) (e : Fin 256) : vR v (ix2 r e) = v (ix5 0 0 0 r ⟨256 + e.val, by omega⟩) := by
  pointwise [vR, vmat]

theorem mHalf_at (m : MF) (c : Fin 256) : mHalf m (ix2 0 c) = m (ix2 0 ⟨256 + c.val, by omega⟩) := by
  pointwise [mHalf]
theorem aHalf_at (a : AF) (r : Fin 144) (c : Fin 256) : aHalf a (ix2 r c) = a (ix2 r ⟨256 + c.val, by omega⟩) := by
  pointwise [aHalf]

theorem diagA_at (bt : FVec Ideal S256x512 .f32) (bb : FVec Ideal S256x256 .f32) (q : QT) (k1 k2 : KT) (v : VT) (m : MF) (a : AF) (r : Fin 144) (c : Fin 512) :
    diagA bt bb q k1 k2 v m a (ix2 r c) =
      if h : c.val < 256 then topA bt q k1 v m a (ix2 r c)
      else botA bb q k2 v (topM bt q k1 m) (topA bt q k1 v m a) (ix2 r ⟨c.val - 256, by omega⟩) := by
  pointwise [diagA, aKept]

theorem quot_at (a : AF) (c : Fin 512) (l : Fin 128) :
    quot a (ix2 c l) = Ideal.div (a (ix2 ⟨l.val, by omega⟩ c)) (a (ix2 ⟨128, by omega⟩ c)) := by
  pointwise [quot]

theorem topS_at (bt : FVec Ideal S256x512 .f32) (q : QT) (k : KT) (e : Fin 256) (c : Fin 512) :
    topS bt q k (ix2 e c) = (∑ d : Fin 128, k (ix4 0 0 e d) * q (ix4 0 0 d c)) + bt (ix2 e c) := by
  pointwise [topS]
  rw [score_at]
theorem botS_at (bb : FVec Ideal S256x256 .f32) (q : QT) (k : KT) (e : Fin 256) (c : Fin 256) :
    botS bb q k (ix2 e c) = (∑ d : Fin 128, k (ix4 0 0 e d) * q (ix4 0 0 d ⟨256 + c.val, by omega⟩)) + bb (ix2 e c) := by
  pointwise [botS]
  rw [scoreBot_at]
theorem m0_at (mask : Ideal .f32) (c : Fin 512) : m0 mask (ix2 0 c) = mask := by
  pointwise [m0]
theorem a0_at (r : Fin 144) (c : Fin 512) : a0 (ix2 r c) = (0 : EReal) := by
  pointwise [a0]

end Cert.Attend

end
-- ==== Proof.Attend.Softmax.lean ====
/- A softmax computed block of keys by block of keys with a running maximum, over the extended reals: after the keys
   below `J` the running maximum is some real `μ` and each running sum is the sum of the values weighted by
   `2 ^ (score - μ)`. The quotient of two such sums does not depend on `μ`, and is the softmax's weighted sum. -/
module

public import Idealize.ShloMosaic.PureOps.Ideal
public import Mathlib.Algebra.BigOperators.Fin

@[expose] public section

noncomputable section

namespace Cert.Softmax

open Idealize.ShloMosaic Finset

/-- A nonnegative real factor goes into a sum of extended reals. -/
theorem coe_mul_sum {ι : Type*} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [sum_insert ha, sum_insert ha, EReal.left_distrib_of_nonneg_of_ne_top (by exact_mod_cast hc) (EReal.coe_ne_top c), ih]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- An extended real that is `⊥` or real. -/
def Low (x : EReal) : Prop := x = ⊥ ∨ ∃ r : ℝ, x = r

/-- The maximum of finitely many extended reals below `⊤` is below `⊤`. -/
theorem Low.fold {ι : Type*} (s : Finset ι) (f : ι → EReal) (h : ∀ i, Low (f i)) : Low (s.fold max ⊥ f) := by
  classical
  induction s using Finset.induction_on with
  | empty => left; simp
  | insert a s ha ih =>
    rw [fold_insert ha]
    rcases max_choice (f a) (s.fold max ⊥ f) with e | e <;> rw [e]
    · exact h a
    · exact ih

theorem le_fold {ι : Type*} (s : Finset ι) (f : ι → EReal) (i : ι) (hi : i ∈ s) : f i ≤ s.fold max ⊥ f := by
  classical
  induction s using Finset.induction_on with
  | empty => simp at hi
  | insert a s ha ih =>
    rw [fold_insert ha]
    rcases Finset.mem_insert.1 hi with rfl | h
    · exact le_max_left _ _
    · exact (ih h).trans (le_max_right _ _)

/-- If one of them is real, so is the maximum. -/
theorem fold_real {ι : Type*} (s : Finset ι) (f : ι → EReal) (h : ∀ i, Low (f i)) (i : ι) (hi : i ∈ s) (r : ℝ) (hr : f i = r) :
    ∃ μ : ℝ, s.fold max ⊥ f = μ := by
  rcases Low.fold s f h with e | e
  · have := le_fold s f i hi
    rw [e, hr, le_bot_iff] at this
    exact absurd this (EReal.coe_ne_bot r)
  · exact e

theorem max_real_low (μ : ℝ) (y : EReal) (hy : Low y) : ∃ ν : ℝ, max (μ : EReal) y = ν := by
  rcases hy with rfl | ⟨r, rfl⟩
  · exact ⟨μ, max_eq_left bot_le⟩
  · exact ⟨max μ r, (EReal.coe_strictMono.monotone.map_max).symm⟩

theorem exp2_sub (x : EReal) (hx : Low x) (μ ν : ℝ) :
    Ideal.exp2 ((μ : EReal) - ν) * Ideal.exp2 (x - μ) = Ideal.exp2 (x - ν) := by
  rcases hx with rfl | ⟨r, rfl⟩
  · simp
  · rw [← EReal.coe_sub, ← EReal.coe_sub, ← EReal.coe_sub, Ideal.exp2_coe, Ideal.exp2_coe, Ideal.exp2_coe, ← EReal.coe_mul]
    congr 1
    show (2 : ℝ) ^ (μ - ν) * (2 : ℝ) ^ (r - μ) = (2 : ℝ) ^ (r - ν)
    rw [← Real.rpow_add (by norm_num)]
    congr 1
    ring

theorem exp2_bot_sub (ν : ℝ) : Ideal.exp2 ((⊥ : EReal) - ν) = 0 := by simp

section
variable {R : Type*} (S : ℕ → EReal) (v : R → ℕ → EReal)

/-- The scores of one query: real or masked, the first one real. -/
structure Valid : Prop where
  zero : ∃ r : ℝ, S 0 = r
  low : ∀ j, Low (S j)

/-- The running maximum and sums after the keys below `J`. -/
def Inv (J : ℕ) (m : EReal) (a : R → EReal) : Prop :=
  (J = 0 ∧ m = ⊥ ∧ ∀ r, a r = 0) ∨
  (0 < J ∧ ∃ μ : ℝ, m = μ ∧ ∀ r, a r = ∑ j ∈ range J, v r j * Ideal.exp2 (S j - μ))

variable {S v}

theorem Inv.init (r : R → EReal) (m : EReal) (hm : m = ⊥) (hr : ∀ i, r i = 0) : Inv S v 0 m r := .inl ⟨rfl, hm, hr⟩

/-- Taking in the next `n` keys. -/
theorem Inv.step (hS : Valid S) {J n J' : ℕ} (hn : 0 < n) (hJ : J' = J + n) {m m' : EReal} {a a' : R → EReal} (h : Inv S v J m a)
    (hm : m' = max m (univ.fold max ⊥ fun e : Fin n => S (J + e.val)))
    (ha : ∀ r, a' r = Ideal.exp2 (m - m') * a r + ∑ e : Fin n, v r (J + e.val) * Ideal.exp2 (S (J + e.val) - m')) :
    Inv S v J' m' a' := by
  subst hJ
  have hlow : Low (univ.fold max ⊥ fun e : Fin n => S (J + e.val)) := Low.fold _ _ fun e => hS.low _
  refine .inr ⟨by omega, ?_⟩
  rcases h with ⟨rfl, rfl, ha0⟩ | ⟨_, μ, rfl, haμ⟩
  · obtain ⟨r, hr⟩ := hS.zero
    obtain ⟨ν, hν⟩ := fold_real univ (fun e : Fin n => S (0 + e.val)) (fun e => hS.low _) ⟨0, hn⟩ (mem_univ _) r (by simpa using hr)
    have hm' : m' = ν := by rw [hm, hν]; exact max_eq_right bot_le
    subst hm'
    refine ⟨ν, rfl, fun r => ?_⟩
    rw [ha r, ha0 r, mul_zero, zero_add, Nat.zero_add, Finset.sum_range]
    simp only [Nat.zero_add]
  · obtain ⟨ν, hν⟩ := max_real_low μ _ hlow
    have hm' : m' = ν := by rw [hm, hν]
    subst hm'
    refine ⟨ν, rfl, fun r => ?_⟩
    rw [ha r, haμ r, Finset.sum_range_add]
    congr 1
    · have : Ideal.exp2 ((μ : EReal) - ν) = ((Real.rpow 2 (μ - ν) : ℝ) : EReal) := by rw [← EReal.coe_sub, Ideal.exp2_coe]
      rw [this, coe_mul_sum _ (show (0 : ℝ) ≤ Real.rpow 2 (μ - ν) from Real.rpow_nonneg (by norm_num) _), ← this]
      refine Finset.sum_congr rfl fun j _ => ?_
      rw [← exp2_sub (S j) (hS.low j) μ ν]
      exact mul_left_comm _ _ _
    · rw [Finset.sum_range]

/-- Masked keys may be left out. -/
theorem Inv.skip {J J' : ℕ} (hJ : J ≤ J') (h0 : 0 < J) {m : EReal} {a : R → EReal} (h : Inv S v J m a)
    (hb : ∀ j, J ≤ j → j < J' → S j = ⊥) : Inv S v J' m a := by
  rcases h with ⟨h, _⟩ | ⟨_, μ, hμ, ha⟩
  · omega
  refine .inr ⟨by omega, μ, hμ, fun r => ?_⟩
  rw [ha r]
  refine Finset.sum_subset (Finset.range_mono hJ) fun j hj hj' => ?_
  rw [hb j (by simpa using hj') (by simpa using hj), exp2_bot_sub, mul_zero]

/-- The quotient of the sums, where row `o` holds ones and the scores' powers are `B` times the weights `x`. -/
theorem Inv.quot {N : ℕ} (hN : 0 < N) {m : EReal} {a : R → EReal} (h : Inv S v N m a) (o : R) (ho : ∀ j, j < N → v o j = 1)
    (x : ℕ → ℝ) (hx : ∀ j, 0 ≤ x j) (hx0 : 0 < ∑ j ∈ range N, x j) (A : ℝ) (hA : 0 < A)
    (hSx : ∀ μ : ℝ, ∃ B : ℝ, 0 < B ∧ ∀ j, j < N → Ideal.exp2 (S j - μ) = ((B * x j : ℝ) : EReal)) (r : R) :
    Ideal.div (a r) (a o) = ∑ j ∈ range N, v r j * Ideal.div (x j : EReal) ((∑ j ∈ range N, x j : ℝ) : EReal) := by
  rcases h with ⟨h, _⟩ | ⟨_, μ, _, ha⟩
  · omega
  obtain ⟨B, hB, hBx⟩ := hSx μ
  have e1 : a o = ((B * ∑ j ∈ range N, x j : ℝ) : EReal) := by
    rw [ha o, Finset.mul_sum, coe_sum]
    refine Finset.sum_congr rfl fun j hj => ?_
    rw [ho j (by simpa using hj), one_mul, hBx j (by simpa using hj)]
  have hne : (B * ∑ j ∈ range N, x j) ≠ 0 := (mul_pos hB hx0).ne'
  rw [e1, Ideal.div_coe hne, ha r, mul_comm, coe_mul_sum _ (by positivity)]
  refine Finset.sum_congr rfl fun j hj => ?_
  rw [hBx j (by simpa using hj), Ideal.div_coe hx0.ne', mul_left_comm, ← EReal.coe_mul, ← EReal.coe_mul]
  congr 2
  field_simp

end

end Cert.Softmax

end
-- ==== Proof.Attend.Block.lean ====
/- One block of 512 queries of one head, one query at a time: the running maximum and sums of `Attend.Model` keep
   `Softmax.Inv` while the keys before the block and then the block's own keys are taken in. -/
module

public import proofs.«01_k».proof.Proof.Attend.Read
public import proofs.«01_k».proof.Proof.Attend.Softmax

@[expose] public section

set_option maxRecDepth 16384

noncomputable section

namespace Cert.Attend

open Idealize.ShloMosaic Idealize.ShloMosaic.TcCoe Idealize.SL.Sem Cert.FoxIdeal Cert.FoxIdeal.Gen Cert.Softmax

/-- `k` holds the keys `j₀, …, j₀ + 255` of the key rows `X`. -/
def KeyTile (X : ℕ → Fin 128 → EReal) (j₀ : ℕ) (k : KT) : Prop := ∀ (e : Fin 256) (d : Fin 128), k (ix4 0 0 e d) = X (j₀ + e.val) d
/-- `v` holds the values of the keys `j₀, …, j₀ + 511`. -/
def ValTile (Y : Fin 144 → ℕ → EReal) (j₀ : ℕ) (v : VT) : Prop := ∀ (r : Fin 144) (e : Fin 512), v (ix5 0 0 0 r e) = Y r (j₀ + e.val)

section
variable {S : ℕ → EReal} {Y : Fin 144 → ℕ → EReal} {X : ℕ → Fin 128 → EReal} {Q : Fin 128 → EReal} {q : QT} {c : Fin 512}
variable (hS : Valid S) (hq : ∀ d : Fin 128, q (ix4 0 0 d c) = Q d)
include hS hq

omit hq in
/-- Taking in 256 keys whose scores are the column `c` of `s`. -/
theorem accum_inv {J J' : ℕ} (hJ' : J' = J + 256) {m : MF} {a : AF} (h : Inv S Y J (m (ix2 0 c)) fun r => a (ix2 r c))
    {s : FVec Ideal S256x512 .f32} (hs : ∀ e : Fin 256, s (ix2 e c) = S (J + e.val)) {w : FVec Ideal S144x256 .bf16}
    (hw : ∀ (r : Fin 144) (e : Fin 256), w (ix2 r e) = Y r (J + e.val)) :
    Inv S Y J' (mNew s m (ix2 0 c)) fun r => accum s m (mNew s m) w a (ix2 r c) := by
  refine Inv.step hS (n := 256) (by norm_num) hJ' h ?_ fun r => ?_
  · rw [mNew_at]; simp only [hs]
  · rw [accum_at]; simp only [hs, hw]

/-- Taking in the 512 keys of an earlier block. -/
theorem off_inv {J J' : ℕ} (hJ' : J' = J + 512) {m : MF} {a : AF} (h : Inv S Y J (m (ix2 0 c)) fun r => a (ix2 r c)) {k1 k2 : KT} {v : VT}
    (h1 : KeyTile X J k1) (h2 : KeyTile X (J + 256) k2) (hv : ValTile Y J v)
    (hX : ∀ j, J ≤ j → j < J + 512 → S j = ∑ d, X j d * Q d) :
    Inv S Y J' (offM q k1 k2 m (ix2 0 c)) fun r => offA q k1 k2 v m a (ix2 r c) := by
  refine accum_inv hS (J := J + 256) (by omega) (accum_inv hS rfl h (s := score k1 q) ?_ ?_) ?_ ?_
  · intro e
    rw [score_at, hX _ (by omega) (by omega)]
    simp only [h1 e, hq]
  · intro r e
    rw [vL_at, hv]
  · intro e
    rw [score_at, hX _ (by omega) (by omega)]
    simp only [h2 e, hq]
  · intro r e
    rw [vR_at, hv, Nat.add_assoc]

/-- Taking in the queries' own block of 512 keys: its second half is seen by the last 256 queries alone. -/
theorem diag_inv {bt : FVec Ideal S256x512 .f32} {bb : FVec Ideal S256x256 .f32} {J J' : ℕ} (hJ' : J' = J + 512) {m : MF} {a : AF}
    (h : Inv S Y J (m (ix2 0 c)) fun r => a (ix2 r c)) {k1 k2 : KT} {v : VT}
    (h1 : KeyTile X J k1) (h2 : KeyTile X (J + 256) k2) (hv : ValTile Y J v)
    (hT : ∀ e : Fin 256, S (J + e.val) = (∑ d, X (J + e.val) d * Q d) + bt (ix2 e c))
    (hB : ∀ c' : Fin 256, c.val = 256 + c'.val → ∀ e : Fin 256, S (J + 256 + e.val) = (∑ d, X (J + 256 + e.val) d * Q d) + bb (ix2 e c'))
    (hL : c.val < 256 → ∀ j, J + 256 ≤ j → j < J + 512 → S j = ⊥) :
    ∃ μ, Inv S Y J' μ fun r => diagA bt bb q k1 k2 v m a (ix2 r c) := by
  have top : Inv S Y (J + 256) (topM bt q k1 m (ix2 0 c)) fun r => topA bt q k1 v m a (ix2 r c) := by
    refine accum_inv hS rfl h (s := topS bt q k1) (fun e => ?_) (fun r e => ?_)
    · rw [topS_at, hT]; simp only [h1 e, hq]
    · rw [vL_at, hv]
  by_cases hc : c.val < 256
  · refine ⟨topM bt q k1 m (ix2 0 c), ?_⟩
    have := Inv.skip (J' := J') (by omega) (by omega) top fun j hj hj' => hL hc j hj (by omega)
    convert this using 2 with r
    rw [diagA_at, dif_pos hc]
  · obtain ⟨c', hc'⟩ : ∃ c' : Fin 256, c.val = 256 + c'.val := ⟨⟨c.val - 256, by omega⟩, by simp only; omega⟩
    have hcc : (⟨256 + c'.val, by omega⟩ : Fin 512) = c := Fin.ext hc'.symm
    refine ⟨mBot (botS bb q k2) (mHalf (topM bt q k1 m)) (ix2 0 c'), ?_⟩
    refine Inv.step hS (n := 256) (J := J + 256) (by norm_num) (by omega) top ?_ fun r => ?_
    · rw [mBot_at, mHalf_at, hcc]
      congr 1
      refine Finset.fold_congr fun e _ => ?_
      rw [botS_at, hcc, hB c' hc']; simp only [h2 e, hq]
    · rw [diagA_at, dif_neg hc]
      have e1 : (⟨c.val - 256, by omega⟩ : Fin 256) = c' := Fin.ext (by simp only; omega)
      rw [e1]
      unfold botA
      rw [aBot_at, mHalf_at, aHalf_at, hcc]
      congr 1
      refine Finset.sum_congr rfl fun e _ => ?_
      rw [vR_at, hv, botS_at, hcc, hB c' hc']
      simp only [h2 e, hq, Nat.add_assoc]

end

section
variable {S : ℕ → EReal} {Y : Fin 144 → ℕ → EReal} {X : ℕ → Fin 128 → EReal} {Q : Fin 128 → EReal} {q : QT} {c : Fin 512}
variable {mask : Ideal .f32} {bt : FVec Ideal S256x512 .f32} {bb : FVec Ideal S256x256 .f32}

/-- The scores of query `c` of block `n`: plain before the block, biased in it, masked behind it. -/
structure Scores (S : ℕ → EReal) (X : ℕ → Fin 128 → EReal) (Q : Fin 128 → EReal) (bt : FVec Ideal S256x512 .f32) (bb : FVec Ideal S256x256 .f32)
    (n : ℕ) (c : Fin 512) : Prop where
  valid : Valid S
  off : ∀ j, j < 512 * n → S j = ∑ d, X j d * Q d
  top : ∀ e : Fin 256, S (512 * n + e.val) = (∑ d, X (512 * n + e.val) d * Q d) + bt (ix2 e c)
  bot : ∀ c' : Fin 256, c.val = 256 + c'.val → ∀ e : Fin 256,
    S (512 * n + 256 + e.val) = (∑ d, X (512 * n + 256 + e.val) d * Q d) + bb (ix2 e c')
  low : c.val < 256 → ∀ j, 512 * n + 256 ≤ j → j < 512 * n + 512 → S j = ⊥
  behind : ∀ j, 512 * n + 512 ≤ j → S j = ⊥

variable (hmask : mask = (⊥ : EReal)) (hq : ∀ d : Fin 128, q (ix4 0 0 d c) = Q d)
include hmask hq

omit hq in
theorem init_inv : Inv S Y 0 (m0 mask (ix2 0 c)) fun r => a0 (ix2 r c) :=
  Inv.init _ _ (by rw [m0_at, hmask]) fun r => a0_at r c

theorem blk0_inv (h : Scores S X Q bt bb 0 c) {k1 k2 : KT} {v : VT}
    (h1 : KeyTile X 0 k1) (h2 : KeyTile X 256 k2) (hv : ValTile Y 0 v) :
    ∃ μ, Inv S Y 2048 μ fun r => blk0 mask bt bb q k1 k2 v (ix2 r c) := by
  obtain ⟨μ, hi⟩ := diag_inv h.valid hq (J := 0) rfl (init_inv (S := S) (Y := Y) (c := c) hmask) (k2 := k2) (v := v) h1 h2 hv h.top h.bot h.low
  exact ⟨μ, hi.skip (by norm_num) (by norm_num) fun j hj _ => h.behind j hj⟩

theorem blk1_inv (h : Scores S X Q bt bb 1 c) {k1 k2 k3 k4 : KT} {v v' : VT}
    (h1 : KeyTile X 0 k1) (h2 : KeyTile X 256 k2) (hv : ValTile Y 0 v)
    (h3 : KeyTile X 512 k3) (h4 : KeyTile X 768 k4) (hv' : ValTile Y 512 v') :
    ∃ μ, Inv S Y 2048 μ fun r => blk1 mask bt bb q k1 k2 k3 k4 v v' (ix2 r c) := by
  have i1 := off_inv h.valid hq (J := 0) (J' := 512) rfl (init_inv (S := S) (Y := Y) (c := c) hmask) h1 h2 hv fun j _ hj => h.off j (by omega)
  obtain ⟨μ, hi⟩ := diag_inv h.valid hq (J := 512) rfl i1 (k2 := k4) (v := v') h3 h4 hv' h.top h.bot h.low
  exact ⟨μ, hi.skip (by norm_num) (by norm_num) fun j hj _ => h.behind j hj⟩

theorem blk2_inv (h : Scores S X Q bt bb 2 c) {k1 k2 k3 k4 k5 k6 : KT} {v v' v'' : VT}
    (h1 : KeyTile X 0 k1) (h2 : KeyTile X 256 k2) (hv : ValTile Y 0 v)
    (h3 : KeyTile X 512 k3) (h4 : KeyTile X 768 k4) (hv' : ValTile Y 512 v')
    (h5 : KeyTile X 1024 k5) (h6 : KeyTile X 1280 k6) (hv'' : ValTile Y 1024 v'') :
    ∃ μ, Inv S Y 2048 μ fun r => blk2 mask bt bb q k1 k2 k3 k4 k5 k6 v v' v'' (ix2 r c) := by
  have i1 := off_inv h.valid hq (J := 0) (J' := 512) rfl (init_inv (S := S) (Y := Y) (c := c) hmask) h1 h2 hv fun j _ hj => h.off j (by omega)
  have i2 := off_inv h.valid hq (J := 512) (J' := 1024) rfl i1 h3 h4 hv' fun j _ hj => h.off j (by omega)
  obtain ⟨μ, hi⟩ := diag_inv h.valid hq (J := 1024) rfl i2 (k2 := k6) (v := v'') h5 h6 hv'' h.top h.bot h.low
  exact ⟨μ, hi.skip (by norm_num) (by norm_num) fun j hj _ => h.behind j hj⟩

theorem blk3_inv (h : Scores S X Q bt bb 3 c) {k1 k2 k3 k4 k5 k6 k7 k8 : KT} {v v' v'' v''' : VT}
    (h1 : KeyTile X 0 k1) (h2 : KeyTile X 256 k2) (hv : ValTile Y 0 v)
    (h3 : KeyTile X 512 k3) (h4 : KeyTile X 768 k4) (hv' : ValTile Y 512 v')
    (h5 : KeyTile X 1024 k5) (h6 : KeyTile X 1280 k6) (hv'' : ValTile Y 1024 v'')
    (h7 : KeyTile X 1536 k7) (h8 : KeyTile X 1792 k8) (hv''' : ValTile Y 1536 v''') :
    ∃ μ, Inv S Y 2048 μ fun r => blk3 mask bt bb q k1 k2 k3 k4 k5 k6 k7 k8 v v' v'' v''' (ix2 r c) := by
  have i1 := off_inv h.valid hq (J := 0) (J' := 512) rfl (init_inv (S := S) (Y := Y) (c := c) hmask) h1 h2 hv fun j _ hj => h.off j (by omega)
  have i2 := off_inv h.valid hq (J := 512) (J' := 1024) rfl i1 h3 h4 hv' fun j _ hj => h.off j (by omega)
  have i3 := off_inv h.valid hq (J := 1024) (J' := 1536) rfl i2 h5 h6 hv'' fun j _ hj => h.off j (by omega)
  obtain ⟨μ, hi⟩ := diag_inv h.valid hq (J := 1536) rfl i3 (k2 := k8) (v := v''') h7 h8 hv''' h.top h.bot h.low
  exact ⟨μ, hi.skip (by norm_num) (by norm_num) fun j hj _ => h.behind j hj⟩

end

end Cert.Attend

end
-- ==== Proof.Fox.RefRead.lean ====
/- The reference's result read at an index: the softmax of the decayed, masked scores against the values. -/
module

public import proofs.«01_k».proof.Proof.Gen.FoxRefIdeal.Read
public import Idealize.ShloMosaic.Lib.Pipeline.ValueKit

@[expose] public section

set_option maxRecDepth 16384

noncomputable section

namespace Cert.FoxRefIdeal.Attn

open Idealize.ShloMosaic Idealize.ShloMosaic.TcCoe Idealize.SL.Sem Cert.FoxRefIdeal Cert.FoxRefIdeal.Read

variable (x0 : FVec Ideal S16x2048x8x64 .f32) (x1 : FVec Ideal S16x2048x8 .f32) (x2 x3 : FVec Ideal S16x2048x8x64 .f32)

/-- The score of query `t` against key `s`. -/
def sc (b : Fin 16) (h : Fin 8) (t s : Fin 2048) : EReal :=
  if s.val ≤ t.val then (∑ d : Fin 64, (x0 (ix4 b t h d) : EReal) * x2 (ix4 b s h d)) * Ideal.ofBits FTy.f32 0x3E000000#32 + (x1 (ix3 b t h) - x1 (ix3 b s h))
  else ⊥

theorem v1_at (b : Fin 16) (h : Fin 8) (t s : Fin 2048) : (val_main_v1 (F := Ideal) x0 x2 (ix4 b h t s) : EReal) =
    ∑ d : Fin 64, (x0 (ix4 b t h d) : EReal) * x2 (ix4 b s h d) := by
  pointwise [val_main_v1]

theorem v2_at (i : S16x8x2048x2048.Idx) : (val_main_v2 (F := Ideal) i : EReal) = Ideal.ofBits FTy.f32 0x3E000000#32 := rfl

theorem v8_at (b : Fin 16) (h : Fin 8) (t s : Fin 2048) : (val_main_v8 (F := Ideal) x1 (ix4 b h t s) : EReal) = x1 (ix3 b t h) := by
  pointwise [val_main_v8, val_main_v5, val_main_v4]

theorem v9_at (b : Fin 16) (h : Fin 8) (t s : Fin 2048) : (val_main_v9 (F := Ideal) x1 (ix4 b h t s) : EReal) = x1 (ix3 b s h) := by
  pointwise [val_main_v9, val_main_v7, val_main_v6]

theorem mask_at (b : Fin 16) (h : Fin 8) (t s : Fin 2048) : val_main_call0_v1 (F := Ideal) (ix4 b h t s) = cmpi .sle (val_main_v13 (F := Ideal)) (val_main_v14 (F := Ideal)) (ix2 t s) := by
  pointwise [val_main_call0_v1, val_main_v15]

theorem v13_at (t s : Fin 2048) : val_main_v13 (F := Ideal) (ix2 t s) = BitVec.ofNat 32 s.val := by
  rw [val_main_v13_apply, val_main_v11_apply, val_main_v0_apply]
  rfl

theorem v14_at (t s : Fin 2048) : val_main_v14 (F := Ideal) (ix2 t s) = BitVec.ofNat 32 t.val := by
  rw [val_main_v14_apply, val_main_v12_apply, val_main_v0_apply]
  rfl

theorem sle_nat (a b : ℕ) (ha : a < 2 ^ 31) (hb : b < 2 ^ 31) : (BitVec.ofNat 32 a).sle (BitVec.ofNat 32 b) = decide (a ≤ b) := by
  have h1 : (BitVec.ofNat 32 a).toInt = a := by
    rw [BitVec.toInt_eq_toNat_cond, BitVec.toNat_ofNat, Nat.mod_eq_of_lt (by omega), if_pos (by omega)]
  have h2 : (BitVec.ofNat 32 b).toInt = b := by
    rw [BitVec.toInt_eq_toNat_cond, BitVec.toNat_ofNat, Nat.mod_eq_of_lt (by omega), if_pos (by omega)]
  rw [BitVec.sle, h1, h2]
  simp

theorem ninf : Ideal.ofBits FTy.f32 0xFF800000#32 = (⊥ : EReal) := by simp [Ideal.ofBits, Ideal.ieee]

theorem v17_at (b : Fin 16) (h : Fin 8) (t s : Fin 2048) : (val_main_v17 (F := Ideal) x0 x1 x2 (ix4 b h t s) : EReal) = sc x0 x1 x2 b h t s := by
  rw [val_main_v17_apply, mask_at, val_main_v16_apply, val_main_v3_apply, val_main_v10_apply, v1_at, v2_at, v8_at, v9_at]
  have hb : cmpi .sle (val_main_v13 (F := Ideal)) (val_main_v14 (F := Ideal)) (ix2 t s) = BitVec.ofBool (decide (s.val ≤ t.val)) := by
    rw [← sle_nat s.val t.val (by omega) (by omega), ← v13_at t s, ← v14_at t s]
    rfl
  have hn : (val_main_call0_v2 (F := Ideal) (ix4 b h t s) : EReal) = ⊥ := ninf
  rw [hb, hn]
  unfold sc
  by_cases hh : s.val ≤ t.val
  · rw [if_pos hh, decide_eq_true hh]; rfl
  · rw [if_neg hh, decide_eq_false hh]; rfl

theorem v18_at (b : Fin 16) (h : Fin 8) (t : Fin 2048) : (val_main_v18 (F := Ideal) x0 x1 x2 (ix3 b h t) : EReal) =
    Finset.univ.fold max (⊥ : EReal) fun s : Fin 2048 => sc x0 x1 x2 b h t s := by
  pointwise [val_main_v18, val_main_cst_1]
  simp only [v17_at, ninf]

/-- The largest score of a query. -/
def mx (b : Fin 16) (h : Fin 8) (t : Fin 2048) : EReal := Finset.univ.fold max (⊥ : EReal) fun s : Fin 2048 => sc x0 x1 x2 b h t s

theorem v20_at (b : Fin 16) (h : Fin 8) (t : Fin 2048) : (val_main_v20 (F := Ideal) x0 x1 x2 (ix3 b h t) : EReal) = mx x0 x1 x2 b h t := by
  rw [val_main_v20_apply, v18_at]
  have : (val_main_v19 (F := Ideal) (ix3 b h t) : EReal) = ⊥ := ninf
  rw [this]
  show max (⊥ : EReal) _ = _
  rw [max_eq_right bot_le]; rfl

theorem v22_at (b : Fin 16) (h : Fin 8) (t s : Fin 2048) : (val_main_v22 (F := Ideal) x0 x1 x2 (ix4 b h t s) : EReal) = mx x0 x1 x2 b h t := by
  rw [← v20_at]
  pointwise [val_main_v22, val_main_v21]

theorem v24_at (b : Fin 16) (h : Fin 8) (t s : Fin 2048) : (val_main_v24 (F := Ideal) x0 x1 x2 (ix4 b h t s) : EReal) =
    Ideal.exp (sc x0 x1 x2 b h t s - mx x0 x1 x2 b h t) := by
  rw [val_main_v24_apply, val_main_v23_apply, v17_at, v22_at]; rfl

theorem v27_at (b : Fin 16) (h : Fin 8) (t s : Fin 2048) : (val_main_v27 (F := Ideal) x0 x1 x2 (ix4 b h t s) : EReal) =
    ∑ s' : Fin 2048, Ideal.exp (sc x0 x1 x2 b h t s' - mx x0 x1 x2 b h t) := by
  have : (val_main_v27 (F := Ideal) x0 x1 x2 (ix4 b h t s) : EReal) = val_main_v25 (F := Ideal) x0 x1 x2 (ix3 b h t) := by
    pointwise [val_main_v27, val_main_v26]
  rw [this]
  simp only [← v24_at]
  pointwise [val_main_v25, val_main_cst_3]

theorem v32_at (b : Fin 16) (t : Fin 2048) (l : Fin 512) : (val_main_v32 (F := Ideal) x0 x1 x2 x3 (ix3 b t l) : EReal) =
    ∑ s : Fin 2048, (x3 (ix4 b s ⟨l.val / 64, by omega⟩ ⟨l.val % 64, by omega⟩) : EReal) *
      Ideal.div (Ideal.exp (sc x0 x1 x2 b ⟨l.val / 64, by omega⟩ t s - mx x0 x1 x2 b ⟨l.val / 64, by omega⟩ t))
        (∑ s' : Fin 2048, Ideal.exp (sc x0 x1 x2 b ⟨l.val / 64, by omega⟩ t s' - mx x0 x1 x2 b ⟨l.val / 64, by omega⟩ t)) := by
  pointwise [val_main_v32, val_main_v31, val_main_v30, val_main_v29, val_main_v28]
  simp only [v24_at, v27_at]

end Cert.FoxRefIdeal.Attn

end
-- ==== Proof.Fox.Bias.lean ====
/- The kernel's causal biases and its loads, read at an index. -/
module

public import proofs.«01_k».proof.Proof.Fox.Pieces
public import proofs.«01_k».proof.Proof.Attend.Block
public import proofs.«01_k».proof.Proof.Fox.RefRead

@[expose] public section

set_option maxRecDepth 16384

noncomputable section

namespace Cert.FoxIdeal.Attn

open Idealize.ShloMosaic Idealize.ShloMosaic.TcCoe Idealize.SL.Sem Cert.FoxIdeal Cert.FoxIdeal.Gen Cert.Attend

theorem mask_eq : mask = (⊥ : EReal) := IdealRules.named_const.ideal_named_scalar _ _ _ _ rfl

/-- A select between zero and the mask by a signed comparison of two small words. -/
theorem pick (a b : ℕ) (ha : a < 2 ^ 31) (hb : b < 2 ^ 31) :
    (Scalar.select (IntOp.cmpi .sle (BitVec.ofNat 32 a) (BitVec.ofNat 32 b)) (0 : EReal) mask : EReal) = if a ≤ b then (0 : EReal) else ⊥ := by
  have h : IntOp.cmpi .sle (BitVec.ofNat 32 a) (BitVec.ofNat 32 b) = BitVec.ofBool (decide (a ≤ b)) := by
    rw [← Cert.FoxRefIdeal.Attn.sle_nat a b ha hb]; rfl
  rw [h]
  by_cases hh : a ≤ b
  · rw [if_pos hh, decide_eq_true hh]; rfl
  · rw [if_neg hh, decide_eq_false hh]; exact mask_eq

theorem word_add (a b : ℕ) : IntOp.addi (BitVec.ofNat 32 a) (BitVec.ofNat 32 b) = BitVec.ofNat 32 (a + b) := (BitVec.ofNat_add a b).symm

theorem pay2_at (e : Fin 256) (c : Fin 512) : (k0_pay2 (F := Ideal) (ix2 e c) : EReal) = if e.val ≤ c.val then (0 : EReal) else ⊥ := by
  rw [← pick _ _ (by omega) (by omega)]
  pointwise [k0_pay2]
  rw [word_add, word_add]
  rfl

theorem pay3_at (e : Fin 256) (c : Fin 256) : (k0_pay3 (F := Ideal) (ix2 e c) : EReal) = if e.val ≤ c.val then (0 : EReal) else ⊥ := by
  have h := pick (e.val + 256) (c.val + 256) (by omega) (by omega)
  simp only [Nat.add_le_add_iff_right] at h
  rw [← h]
  pointwise [k0_pay3]
  rw [word_add, word_add]

/-- Lanes below 64 are told from the others. -/
theorem pick64 (l : ℕ) (hl : l < 2 ^ 31) (x y : EReal) :
    (Scalar.select (IntOp.cmpi .slt (BitVec.ofNat 32 l) 64#32) x y : EReal) = if l < 64 then x else y := by
  have h1 : (BitVec.ofNat 32 l).toInt = l := by
    rw [BitVec.toInt_eq_toNat_cond, BitVec.toNat_ofNat, Nat.mod_eq_of_lt (by omega), if_pos (by omega)]
  have h : IntOp.cmpi .slt (BitVec.ofNat 32 l) 64#32 = BitVec.ofBool (decide (l < 64)) := by
    show BitVec.ofBool (BitVec.slt _ _) = _
    rw [BitVec.slt, h1]
    congr 1
    simp
  rw [h]
  by_cases hh : l < 64
  · rw [if_pos hh, decide_eq_true hh]; rfl
  · rw [if_neg hh, decide_eq_false hh]; rfl

theorem emit_at (a b : AF) (c : Fin 512) (l : Fin 128) : (emit a b (ix3 0 c l) : EReal) = if l.val < 64 then (quot a (ix2 c l) : EReal) else quot b (ix2 c l) := by
  rw [← pick64 _ (by omega)]
  pointwise [emit]

variable {x0 : Vec Ideal S1x2x128x2048 .bf16} {x1 : Vec Ideal S1x2x2048x128 .bf16} {x2 : Vec Ideal S1x4x1x144x512 .bf16}

theorem q0_0 (c : Fin 512) (d : Fin 128) : View.ld x0 r0_0 (ix4 0 0 d c) = x0 (ix4 0 0 d ⟨0 + c.val, by omega⟩) := by pointwise
theorem q0_1 (c : Fin 512) (d : Fin 128) : View.ld x0 r0_3 (ix4 0 0 d c) = x0 (ix4 0 1 d ⟨0 + c.val, by omega⟩) := by pointwise
theorem q1_0 (c : Fin 512) (d : Fin 128) : View.ld x0 r0_6 (ix4 0 0 d c) = x0 (ix4 0 0 d ⟨512 + c.val, by omega⟩) := by pointwise
theorem q1_1 (c : Fin 512) (d : Fin 128) : View.ld x0 r0_7 (ix4 0 0 d c) = x0 (ix4 0 1 d ⟨512 + c.val, by omega⟩) := by pointwise
theorem q2_0 (c : Fin 512) (d : Fin 128) : View.ld x0 r0_14 (ix4 0 0 d c) = x0 (ix4 0 0 d ⟨1024 + c.val, by omega⟩) := by pointwise
theorem q2_1 (c : Fin 512) (d : Fin 128) : View.ld x0 r0_15 (ix4 0 0 d c) = x0 (ix4 0 1 d ⟨1024 + c.val, by omega⟩) := by pointwise
theorem q3_0 (c : Fin 512) (d : Fin 128) : View.ld x0 r0_22 (ix4 0 0 d c) = x0 (ix4 0 0 d ⟨1536 + c.val, by omega⟩) := by pointwise
theorem q3_1 (c : Fin 512) (d : Fin 128) : View.ld x0 r0_23 (ix4 0 0 d c) = x0 (ix4 0 1 d ⟨1536 + c.val, by omega⟩) := by pointwise
theorem k0_0 (e : Fin 256) (d : Fin 128) : View.ld x1 r0_1 (ix4 0 0 e d) = x1 (ix4 0 0 ⟨0 + e.val, by omega⟩ d) := by pointwise
theorem k1_0 (e : Fin 256) (d : Fin 128) : View.ld x1 r0_2 (ix4 0 0 e d) = x1 (ix4 0 0 ⟨256 + e.val, by omega⟩ d) := by pointwise
theorem k2_0 (e : Fin 256) (d : Fin 128) : View.ld x1 r0_10 (ix4 0 0 e d) = x1 (ix4 0 0 ⟨512 + e.val, by omega⟩ d) := by pointwise
theorem k3_0 (e : Fin 256) (d : Fin 128) : View.ld x1 r0_11 (ix4 0 0 e d) = x1 (ix4 0 0 ⟨768 + e.val, by omega⟩ d) := by pointwise
theorem k4_0 (e : Fin 256) (d : Fin 128) : View.ld x1 r0_18 (ix4 0 0 e d) = x1 (ix4 0 0 ⟨1024 + e.val, by omega⟩ d) := by pointwise
theorem k5_0 (e : Fin 256) (d : Fin 128) : View.ld x1 r0_19 (ix4 0 0 e d) = x1 (ix4 0 0 ⟨1280 + e.val, by omega⟩ d) := by pointwise
theorem k6_0 (e : Fin 256) (d : Fin 128) : View.ld x1 r0_26 (ix4 0 0 e d) = x1 (ix4 0 0 ⟨1536 + e.val, by omega⟩ d) := by pointwise
theorem k7_0 (e : Fin 256) (d : Fin 128) : View.ld x1 r0_27 (ix4 0 0 e d) = x1 (ix4 0 0 ⟨1792 + e.val, by omega⟩ d) := by pointwise
theorem k0_1 (e : Fin 256) (d : Fin 128) : View.ld x1 r0_4 (ix4 0 0 e d) = x1 (ix4 0 1 ⟨0 + e.val, by omega⟩ d) := by pointwise
theorem k1_1 (e : Fin 256) (d : Fin 128) : View.ld x1 r0_5 (ix4 0 0 e d) = x1 (ix4 0 1 ⟨256 + e.val, by omega⟩ d) := by pointwise
theorem k2_1 (e : Fin 256) (d : Fin 128) : View.ld x1 r0_12 (ix4 0 0 e d) = x1 (ix4 0 1 ⟨512 + e.val, by omega⟩ d) := by pointwise
theorem k3_1 (e : Fin 256) (d : Fin 128) : View.ld x1 r0_13 (ix4 0 0 e d) = x1 (ix4 0 1 ⟨768 + e.val, by omega⟩ d) := by pointwise
theorem k4_1 (e : Fin 256) (d : Fin 128) : View.ld x1 r0_20 (ix4 0 0 e d) = x1 (ix4 0 1 ⟨1024 + e.val, by omega⟩ d) := by pointwise
theorem k5_1 (e : Fin 256) (d : Fin 128) : View.ld x1 r0_21 (ix4 0 0 e d) = x1 (ix4 0 1 ⟨1280 + e.val, by omega⟩ d) := by pointwise
theorem k6_1 (e : Fin 256) (d : Fin 128) : View.ld x1 r0_28 (ix4 0 0 e d) = x1 (ix4 0 1 ⟨1536 + e.val, by omega⟩ d) := by pointwise
theorem k7_1 (e : Fin 256) (d : Fin 128) : View.ld x1 r0_29 (ix4 0 0 e d) = x1 (ix4 0 1 ⟨1792 + e.val, by omega⟩ d) := by pointwise
theorem v0 (r : Fin 144) (e : Fin 512) : View.ld x2 r0_8 (ix5 0 0 0 r e) = x2 (ix5 0 0 0 r e) := by pointwise
theorem v1 (r : Fin 144) (e : Fin 512) : View.ld x2 r0_16 (ix5 0 0 0 r e) = x2 (ix5 0 1 0 r e) := by pointwise
theorem v2 (r : Fin 144) (e : Fin 512) : View.ld x2 r0_24 (ix5 0 0 0 r e) = x2 (ix5 0 2 0 r e) := by pointwise
theorem v3 (r : Fin 144) (e : Fin 512) : View.ld x2 r0_30 (ix5 0 0 0 r e) = x2 (ix5 0 3 0 r e) := by pointwise

end Cert.FoxIdeal.Attn

end
-- ==== Proof.Fox.Point.lean ====
/- One query of one head of the forgetting attention: each stored block holds, lane by lane, the softmax of the query's scores
   against the values. -/
module

public import proofs.«01_k».proof.Proof.Fox.Bias

@[expose] public section

set_option maxRecDepth 16384

noncomputable section

namespace Cert.FoxIdeal.Attn

open Idealize.ShloMosaic Idealize.ShloMosaic.TcCoe Idealize.SL.Sem Cert.FoxIdeal Cert.FoxIdeal.Gen Cert.Attend Cert.Softmax

/-- What the three operand blocks hold for query `t` of the block's head `hh`: the scores `S` of the keys `X` against the query `Q`,
    the values `Y`, and the weights `x` the scores' exponentials are a multiple of. -/
structure Tiles (x0 : Vec Ideal S1x2x128x2048 .bf16) (x1 : Vec Ideal S1x2x2048x128 .bf16) (x2 : Vec Ideal S1x4x1x144x512 .bf16)
    (hh : Fin 2) (t : Fin 2048) (Y : Fin 144 → ℕ → EReal) (x : ℕ → ℝ) (S : ℕ → EReal) (X : ℕ → Fin 128 → EReal) (Q : Fin 128 → EReal) : Prop where
  valid : Valid S
  q : ∀ d : Fin 128, x0 (ix4 0 hh d t) = Q d
  k : ∀ (j : Fin 2048) (d : Fin 128), x1 (ix4 0 hh j d) = X j.val d
  v : ∀ (n : Fin 4) (r : Fin 144) (e : Fin 512), x2 (ix5 0 n 0 r e) = Y r (512 * n.val + e.val)
  dot : ∀ j, j ≤ t.val → S j = ∑ d, X j d * Q d
  behind : ∀ j, t.val < j → S j = ⊥
  ones : ∀ j, j < 2048 → Y ⟨128, by omega⟩ j = 1
  nonneg : ∀ j, 0 ≤ x j
  pos : 0 < ∑ j ∈ Finset.range 2048, x j
  weight : ∀ μ : ℝ, ∃ B : ℝ, 0 < B ∧ ∀ j, j < 2048 → Ideal.exp2 (S j - μ) = ((B * x j : ℝ) : EReal)

/-- The softmax-weighted sum of a value row. -/
def res (Y : Fin 144 → ℕ → EReal) (x : ℕ → ℝ) (r : Fin 144) : EReal :=
  ∑ j ∈ Finset.range 2048, Y r j * Ideal.div (x j : EReal) ((∑ j ∈ Finset.range 2048, x j : ℝ) : EReal)

section
variable {x0 : Vec Ideal S1x2x128x2048 .bf16} {x1 : Vec Ideal S1x2x2048x128 .bf16} {x2 : Vec Ideal S1x4x1x144x512 .bf16}
variable {hh : Fin 2} {t : Fin 2048} {Y : Fin 144 → ℕ → EReal} {x : ℕ → ℝ} {S : ℕ → EReal} {X : ℕ → Fin 128 → EReal} {Q : Fin 128 → EReal}

theorem Tiles.scores (T : Tiles x0 x1 x2 hh t Y x S X Q) {n : ℕ} {c : Fin 512} (ht : t.val = 512 * n + c.val) :
    Scores S X Q k0_pay2 k0_pay3 n c where
  valid := T.valid
  off j hj := T.dot j (by omega)
  top e := by
    rw [pay2_at]
    by_cases h : e.val ≤ c.val
    · rw [if_pos h, add_zero, T.dot _ (by omega)]
    · rw [if_neg h, EReal.add_bot, T.behind _ (by omega)]
  bot c' hc e := by
    rw [pay3_at]
    by_cases h : e.val ≤ c'.val
    · rw [if_pos h, add_zero, T.dot _ (by omega)]
    · rw [if_neg h, EReal.add_bot, T.behind _ (by omega)]
  low hc j hj hj' := T.behind j (by omega)
  behind j hj := T.behind j (by omega)

theorem Tiles.quot (T : Tiles x0 x1 x2 hh t Y x S X Q) {a : AF} {c : Fin 512} (h : ∃ μ, Inv S Y 2048 μ fun r => a (ix2 r c)) (l : Fin 128) :
    (Cert.Attend.quot a (ix2 c l) : EReal) = res Y x ⟨l.val, by omega⟩ := by
  obtain ⟨μ, h⟩ := h
  rw [quot_at]
  exact h.quot (by norm_num) ⟨128, by omega⟩ T.ones x T.nonneg T.pos 1 one_pos T.weight ⟨l.val, by omega⟩

theorem head0_0 (T : Tiles x0 x1 x2 0 t Y x S X Q) {c : Fin 512} (ht : t.val = 512 * 0 + c.val) :
    ∃ μ, Inv S Y 2048 μ fun r => blk0 mask k0_pay2 k0_pay3 (View.ld x0 r0_0) (View.ld x1 r0_1) (View.ld x1 r0_2) (View.ld x2 r0_8) (ix2 r c) := by
  have ht' : (⟨0 + c.val, by omega⟩ : Fin 2048) = t := Fin.ext (by simp only; omega)
  refine blk0_inv (X := X) (Q := Q) mask_eq (fun d => (q0_0 c d).trans (by rw [ht']; exact T.q d)) (T.scores ht) ?_ ?_ ?_
  · exact (fun e d => (k0_0 e d).trans (T.k _ _))
  · exact (fun e d => (k1_0 e d).trans (T.k _ _))
  · exact (fun r e => (v0 r e).trans (T.v 0 r e))

theorem head0_1 (T : Tiles x0 x1 x2 1 t Y x S X Q) {c : Fin 512} (ht : t.val = 512 * 0 + c.val) :
    ∃ μ, Inv S Y 2048 μ fun r => blk0 mask k0_pay2 k0_pay3 (View.ld x0 r0_3) (View.ld x1 r0_4) (View.ld x1 r0_5) (View.ld x2 r0_8) (ix2 r c) := by
  have ht' : (⟨0 + c.val, by omega⟩ : Fin 2048) = t := Fin.ext (by simp only; omega)
  refine blk0_inv (X := X) (Q := Q) mask_eq (fun d => (q0_1 c d).trans (by rw [ht']; exact T.q d)) (T.scores ht) ?_ ?_ ?_
  · exact (fun e d => (k0_1 e d).trans (T.k _ _))
  · exact (fun e d => (k1_1 e d).trans (T.k _ _))
  · exact (fun r e => (v0 r e).trans (T.v 0 r e))

theorem head1_0 (T : Tiles x0 x1 x2 0 t Y x S X Q) {c : Fin 512} (ht : t.val = 512 * 1 + c.val) :
    ∃ μ, Inv S Y 2048 μ fun r => blk1 mask k0_pay2 k0_pay3 (View.ld x0 r0_6) (View.ld x1 r0_1) (View.ld x1 r0_2) (View.ld x1 r0_10) (View.ld x1 r0_11) (View.ld x2 r0_8) (View.ld x2 r0_16) (ix2 r c) := by
  have ht' : (⟨512 + c.val, by omega⟩ : Fin 2048) = t := Fin.ext (by simp only; omega)
  refine blk1_inv (X := X) (Q := Q) mask_eq (fun d => (q1_0 c d).trans (by rw [ht']; exact T.q d)) (T.scores ht) ?_ ?_ ?_ ?_ ?_ ?_
  · exact (fun e d => (k0_0 e d).trans (T.k _ _))
  · exact (fun e d => (k1_0 e d).trans (T.k _ _))
  · exact (fun r e => (v0 r e).trans (T.v 0 r e))
  · exact (fun e d => (k2_0 e d).trans (T.k _ _))
  · exact (fun e d => (k3_0 e d).trans (T.k _ _))
  · exact (fun r e => (v1 r e).trans (T.v 1 r e))

theorem head1_1 (T : Tiles x0 x1 x2 1 t Y x S X Q) {c : Fin 512} (ht : t.val = 512 * 1 + c.val) :
    ∃ μ, Inv S Y 2048 μ fun r => blk1 mask k0_pay2 k0_pay3 (View.ld x0 r0_7) (View.ld x1 r0_4) (View.ld x1 r0_5) (View.ld x1 r0_12) (View.ld x1 r0_13) (View.ld x2 r0_8) (View.ld x2 r0_16) (ix2 r c) := by
  have ht' : (⟨512 + c.val, by omega⟩ : Fin 2048) = t := Fin.ext (by simp only; omega)
  refine blk1_inv (X := X) (Q := Q) mask_eq (fun d => (q1_1 c d).trans (by rw [ht']; exact T.q d)) (T.scores ht) ?_ ?_ ?_ ?_ ?_ ?_
  · exact (fun e d => (k0_1 e d).trans (T.k _ _))
  · exact (fun e d => (k1_1 e d).trans (T.k _ _))
  · exact (fun r e => (v0 r e).trans (T.v 0 r e))
  · exact (fun e d => (k2_1 e d).trans (T.k _ _))
  · exact (fun e d => (k3_1 e d).trans (T.k _ _))
  · exact (fun r e => (v1 r e).trans (T.v 1 r e))

theorem head2_0 (T : Tiles x0 x1 x2 0 t Y x S X Q) {c : Fin 512} (ht : t.val = 512 * 2 + c.val) :
    ∃ μ, Inv S Y 2048 μ fun r => blk2 mask k0_pay2 k0_pay3 (View.ld x0 r0_14) (View.ld x1 r0_1) (View.ld x1 r0_2) (View.ld x1 r0_10) (View.ld x1 r0_11) (View.ld x1 r0_18) (View.ld x1 r0_19) (View.ld x2 r0_8) (View.ld x2 r0_16) (View.ld x2 r0_24) (ix2 r c) := by
  have ht' : (⟨1024 + c.val, by omega⟩ : Fin 2048) = t := Fin.ext (by simp only; omega)
  refine blk2_inv (X := X) (Q := Q) mask_eq (fun d => (q2_0 c d).trans (by rw [ht']; exact T.q d)) (T.scores ht) ?_ ?_ ?_ ?_ ?_ ?_ ?_ ?_ ?_
  · exact (fun e d => (k0_0 e d).trans (T.k _ _))
  · exact (fun e d => (k1_0 e d).trans (T.k _ _))
  · exact (fun r e => (v0 r e).trans (T.v 0 r e))
  · exact (fun e d => (k2_0 e d).trans (T.k _ _))
  · exact (fun e d => (k3_0 e d).trans (T.k _ _))
  · exact (fun r e => (v1 r e).trans (T.v 1 r e))
  · exact (fun e d => (k4_0 e d).trans (T.k _ _))
  · exact (fun e d => (k5_0 e d).trans (T.k _ _))
  · exact (fun r e => (v2 r e).trans (T.v 2 r e))

theorem head2_1 (T : Tiles x0 x1 x2 1 t Y x S X Q) {c : Fin 512} (ht : t.val = 512 * 2 + c.val) :
    ∃ μ, Inv S Y 2048 μ fun r => blk2 mask k0_pay2 k0_pay3 (View.ld x0 r0_15) (View.ld x1 r0_4) (View.ld x1 r0_5) (View.ld x1 r0_12) (View.ld x1 r0_13) (View.ld x1 r0_20) (View.ld x1 r0_21) (View.ld x2 r0_8) (View.ld x2 r0_16) (View.ld x2 r0_24) (ix2 r c) := by
  have ht' : (⟨1024 + c.val, by omega⟩ : Fin 2048) = t := Fin.ext (by simp only; omega)
  refine blk2_inv (X := X) (Q := Q) mask_eq (fun d => (q2_1 c d).trans (by rw [ht']; exact T.q d)) (T.scores ht) ?_ ?_ ?_ ?_ ?_ ?_ ?_ ?_ ?_
  · exact (fun e d => (k0_1 e d).trans (T.k _ _))
  · exact (fun e d => (k1_1 e d).trans (T.k _ _))
  · exact (fun r e => (v0 r e).trans (T.v 0 r e))
  · exact (fun e d => (k2_1 e d).trans (T.k _ _))
  · exact (fun e d => (k3_1 e d).trans (T.k _ _))
  · exact (fun r e => (v1 r e).trans (T.v 1 r e))
  · exact (fun e d => (k4_1 e d).trans (T.k _ _))
  · exact (fun e d => (k5_1 e d).trans (T.k _ _))
  · exact (fun r e => (v2 r e).trans (T.v 2 r e))

theorem head3_0 (T : Tiles x0 x1 x2 0 t Y x S X Q) {c : Fin 512} (ht : t.val = 512 * 3 + c.val) :
    ∃ μ, Inv S Y 2048 μ fun r => blk3 mask k0_pay2 k0_pay3 (View.ld x0 r0_22) (View.ld x1 r0_1) (View.ld x1 r0_2) (View.ld x1 r0_10) (View.ld x1 r0_11) (View.ld x1 r0_18) (View.ld x1 r0_19) (View.ld x1 r0_26) (View.ld x1 r0_27) (View.ld x2 r0_8) (View.ld x2 r0_16) (View.ld x2 r0_24) (View.ld x2 r0_30) (ix2 r c) := by
  have ht' : (⟨1536 + c.val, by omega⟩ : Fin 2048) = t := Fin.ext (by simp only; omega)
  refine blk3_inv (X := X) (Q := Q) mask_eq (fun d => (q3_0 c d).trans (by rw [ht']; exact T.q d)) (T.scores ht) ?_ ?_ ?_ ?_ ?_ ?_ ?_ ?_ ?_ ?_ ?_ ?_
  · exact (fun e d => (k0_0 e d).trans (T.k _ _))
  · exact (fun e d => (k1_0 e d).trans (T.k _ _))
  · exact (fun r e => (v0 r e).trans (T.v 0 r e))
  · exact (fun e d => (k2_0 e d).trans (T.k _ _))
  · exact (fun e d => (k3_0 e d).trans (T.k _ _))
  · exact (fun r e => (v1 r e).trans (T.v 1 r e))
  · exact (fun e d => (k4_0 e d).trans (T.k _ _))
  · exact (fun e d => (k5_0 e d).trans (T.k _ _))
  · exact (fun r e => (v2 r e).trans (T.v 2 r e))
  · exact (fun e d => (k6_0 e d).trans (T.k _ _))
  · exact (fun e d => (k7_0 e d).trans (T.k _ _))
  · exact (fun r e => (v3 r e).trans (T.v 3 r e))

theorem head3_1 (T : Tiles x0 x1 x2 1 t Y x S X Q) {c : Fin 512} (ht : t.val = 512 * 3 + c.val) :
    ∃ μ, Inv S Y 2048 μ fun r => blk3 mask k0_pay2 k0_pay3 (View.ld x0 r0_23) (View.ld x1 r0_4) (View.ld x1 r0_5) (View.ld x1 r0_12) (View.ld x1 r0_13) (View.ld x1 r0_20) (View.ld x1 r0_21) (View.ld x1 r0_28) (View.ld x1 r0_29) (View.ld x2 r0_8) (View.ld x2 r0_16) (View.ld x2 r0_24) (View.ld x2 r0_30) (ix2 r c) := by
  have ht' : (⟨1536 + c.val, by omega⟩ : Fin 2048) = t := Fin.ext (by simp only; omega)
  refine blk3_inv (X := X) (Q := Q) mask_eq (fun d => (q3_1 c d).trans (by rw [ht']; exact T.q d)) (T.scores ht) ?_ ?_ ?_ ?_ ?_ ?_ ?_ ?_ ?_ ?_ ?_ ?_
  · exact (fun e d => (k0_1 e d).trans (T.k _ _))
  · exact (fun e d => (k1_1 e d).trans (T.k _ _))
  · exact (fun r e => (v0 r e).trans (T.v 0 r e))
  · exact (fun e d => (k2_1 e d).trans (T.k _ _))
  · exact (fun e d => (k3_1 e d).trans (T.k _ _))
  · exact (fun r e => (v1 r e).trans (T.v 1 r e))
  · exact (fun e d => (k4_1 e d).trans (T.k _ _))
  · exact (fun e d => (k5_1 e d).trans (T.k _ _))
  · exact (fun r e => (v2 r e).trans (T.v 2 r e))
  · exact (fun e d => (k6_1 e d).trans (T.k _ _))
  · exact (fun e d => (k7_1 e d).trans (T.k _ _))
  · exact (fun r e => (v3 r e).trans (T.v 3 r e))

end

section
variable {x0 : Vec Ideal S1x2x128x2048 .bf16} {x1 : Vec Ideal S1x2x2048x128 .bf16} {x2 : Vec Ideal S1x4x1x144x512 .bf16}
variable {t : Fin 2048} {Y : Fin 144 → ℕ → EReal} {x x' : ℕ → ℝ} {S S' : ℕ → EReal} {X X' : ℕ → Fin 128 → EReal} {Q Q' : Fin 128 → EReal}
variable (T : Tiles x0 x1 x2 0 t Y x S X Q) (T' : Tiles x0 x1 x2 1 t Y x' S' X' Q')
include T T'

theorem piece0_at {c : Fin 512} (ht : t.val = 512 * 0 + c.val) (l : Fin 128) :
    (piece0 x0 x1 x2 (ix3 0 c l) : EReal) = res Y (if l.val < 64 then x else x') ⟨l.val, by omega⟩ := by
  unfold piece0
  rw [emit_at, T.quot (head0_0 T ht) l, T'.quot (head0_1 T' ht) l]
  by_cases h : l.val < 64
  · rw [if_pos h, if_pos h]
  · rw [if_neg h, if_neg h]

theorem piece1_at {c : Fin 512} (ht : t.val = 512 * 1 + c.val) (l : Fin 128) :
    (piece1 x0 x1 x2 (ix3 0 c l) : EReal) = res Y (if l.val < 64 then x else x') ⟨l.val, by omega⟩ := by
  unfold piece1
  rw [emit_at, T.quot (head1_0 T ht) l, T'.quot (head1_1 T' ht) l]
  by_cases h : l.val < 64
  · rw [if_pos h, if_pos h]
  · rw [if_neg h, if_neg h]

theorem piece2_at {c : Fin 512} (ht : t.val = 512 * 2 + c.val) (l : Fin 128) :
    (piece2 x0 x1 x2 (ix3 0 c l) : EReal) = res Y (if l.val < 64 then x else x') ⟨l.val, by omega⟩ := by
  unfold piece2
  rw [emit_at, T.quot (head2_0 T ht) l, T'.quot (head2_1 T' ht) l]
  by_cases h : l.val < 64
  · rw [if_pos h, if_pos h]
  · rw [if_neg h, if_neg h]

theorem piece3_at {c : Fin 512} (ht : t.val = 512 * 3 + c.val) (l : Fin 128) :
    (piece3 x0 x1 x2 (ix3 0 c l) : EReal) = res Y (if l.val < 64 then x else x') ⟨l.val, by omega⟩ := by
  unfold piece3
  rw [emit_at, T.quot (head3_0 T ht) l, T'.quot (head3_1 T' ht) l]
  by_cases h : l.val < 64
  · rw [if_pos h, if_pos h]
  · rw [if_neg h, if_neg h]

end

end Cert.FoxIdeal.Attn

end
-- ==== Proof.Fox.Weights.lean ====
/- Real queries, keys and gates: the tiles' dot products are the base-two scores, and the exponentials of the reference's
   scores are multiples of the kernel's. -/
module

public import proofs.«01_k».proof.Proof.Fox.Entry
public import proofs.«01_k».proof.Proof.Fox.Point

@[expose] public section

set_option maxRecDepth 16384

noncomputable section

namespace Cert.FoxIdeal.Attn

open Idealize.ShloMosaic Idealize.ShloMosaic.TcCoe Idealize.SL.Sem Cert.FoxIdeal Cert.FoxIdeal.Gen Cert.Attend Cert.Softmax
open Cert.FoxRefIdeal.Attn (sc mx)

theorem eighth : Ideal.ofBits FTy.f32 0x3E000000#32 = ((1 / 8 : ℝ) : EReal) := by
  simp only [Ideal.ofBits, Ideal.ieee]
  simp
  rw [← EReal.coe_mul]
  norm_num

theorem two : Ideal.ofBits FTy.f32 0x40000000#32 = ((2 : ℝ) : EReal) := by
  simp only [Ideal.ofBits, Ideal.ieee]
  simp
  rw [← EReal.coe_mul]
  norm_num

theorem log2_pos : 0 < Real.log 2 := Real.log_pos (by norm_num)

theorem ln2_eq : ln2 = ((Real.log 2 : ℝ) : EReal) := by
  unfold ln2
  rw [two, Ideal.log_coe, if_neg (by norm_num)]

theorem div_ln2 (r : ℝ) : Ideal.div (r : EReal) ln2 = ((r / Real.log 2 : ℝ) : EReal) := by
  rw [ln2_eq, Ideal.div_coe log2_pos.ne', ← EReal.coe_mul, mul_one_div]

/-- A sum over 128 lanes is the sum over the first 64 and the sum over the last 64. -/
theorem sum128 (f : Fin 128 → ℝ) : ∑ d, f d = (∑ d : Fin 64, f ⟨d.val, by omega⟩) + ∑ d : Fin 64, f ⟨64 + d.val, by omega⟩ :=
  Fin.sum_univ_add (a := 64) (b := 64) f

section
variable (qR kR : S16x2048x8x64.Idx → ℝ) (cR : S16x2048x8.Idx → ℝ)

/-- The real score of query `t` against key `s`. -/
def sR (b : Fin 16) (h : Fin 8) (t s : Fin 2048) : ℝ :=
  (∑ d : Fin 64, qR (ix4 b t h d) * kR (ix4 b s h d)) * (1 / 8) + (cR (ix3 b t h) - cR (ix3 b s h))

/-- The weight of key `j`: its exponential over `e^M`, zero behind the query. -/
def wR (b : Fin 16) (h : Fin 8) (t : Fin 2048) (M : ℝ) (j : ℕ) : ℝ :=
  if hj : j ≤ t.val then Real.exp (sR qR kR cR b h t ⟨j, by omega⟩ - M) else 0

/-- The kernel's score of key `j`. -/
def sK (b : Fin 16) (h : Fin 8) (t : Fin 2048) (j : ℕ) : EReal :=
  if hj : j ≤ t.val then (((sR qR kR cR b h t ⟨j, by omega⟩ - cR (ix3 b t h)) / Real.log 2 : ℝ) : EReal) else ⊥

theorem wR_nonneg (b : Fin 16) (h : Fin 8) (t : Fin 2048) (M : ℝ) (j : ℕ) : 0 ≤ wR qR kR cR b h t M j := by
  unfold wR; split_ifs
  · exact (Real.exp_pos _).le
  · exact le_rfl

theorem wR_sum_pos (b : Fin 16) (h : Fin 8) (t : Fin 2048) (M : ℝ) : 0 < ∑ j ∈ Finset.range 2048, wR qR kR cR b h t M j := by
  refine Finset.sum_pos' (fun j _ => wR_nonneg qR kR cR b h t M j) ⟨0, by simp, ?_⟩
  unfold wR
  rw [dif_pos (Nat.zero_le _)]
  exact Real.exp_pos _

theorem sK_valid (b : Fin 16) (h : Fin 8) (t : Fin 2048) : Valid (sK qR kR cR b h t) where
  zero := ⟨_, by unfold sK; rw [dif_pos (Nat.zero_le _)]⟩
  low j := by
    unfold sK; split_ifs
    · exact .inr ⟨_, rfl⟩
    · exact .inl rfl

theorem sK_weight (b : Fin 16) (h : Fin 8) (t : Fin 2048) (M μ : ℝ) :
    ∃ B : ℝ, 0 < B ∧ ∀ j, j < 2048 → Ideal.exp2 (sK qR kR cR b h t j - μ) = ((B * wR qR kR cR b h t M j : ℝ) : EReal) := by
  refine ⟨Real.exp (M - cR (ix3 b t h) - μ * Real.log 2), Real.exp_pos _, fun j _ => ?_⟩
  unfold sK wR
  split_ifs with hj
  · rw [← EReal.coe_sub, Ideal.exp2_coe, ← Real.exp_add]
    congr 1
    change (2 : ℝ) ^ ((sR qR kR cR b h t ⟨j, by omega⟩ - cR (ix3 b t h)) / Real.log 2 - μ : ℝ) = _
    rw [Real.rpow_def_of_pos (by norm_num)]
    congr 1
    have := log2_pos.ne'
    field_simp
    ring
  · rw [exp2_bot_sub, mul_zero, EReal.coe_zero]

end

section
variable {x0 : FVec Ideal S16x2048x8x64 .f32} {x1 : FVec Ideal S16x2048x8 .f32} {x2 : FVec Ideal S16x2048x8x64 .f32}
variable {qR kR : S16x2048x8x64.Idx → ℝ} {cR : S16x2048x8.Idx → ℝ}
variable (hq : ∀ i, (x0 i : EReal) = qR i) (hc : ∀ i, (x1 i : EReal) = cR i) (hk : ∀ i, (x2 i : EReal) = kR i)

/-- A query tile's column. -/
def qT (x0 : FVec Ideal S16x2048x8x64 .f32) (b : Fin 16) (h : Fin 8) (t : Fin 2048) (d : Fin 128) : EReal :=
  if hd : d.val < 64 then Ideal.div ((x0 (ix4 b t h ⟨d.val, hd⟩) : EReal) * Ideal.ofBits FTy.f32 0x3E000000#32) ln2
  else if d.val - 64 < 3 then (1 : EReal) else 0

/-- A key tile's row. -/
def kT (x1 : FVec Ideal S16x2048x8 .f32) (x2 : FVec Ideal S16x2048x8x64 .f32) (b : Fin 16) (h : Fin 8) (t : Fin 2048) (d : Fin 128) : EReal :=
  if hd : d.val < 64 then x2 (ix4 b t h ⟨d.val, hd⟩)
  else if d.val - 64 < 1 then -cum (x1 (ix3 b t h))
  else if d.val - 64 - 1 < 1 then -(cum (x1 (ix3 b t h)) - cum (x1 (ix3 b t h)))
  else if d.val - 64 - 1 - 1 < 1 then
    -(cum (x1 (ix3 b t h)) - cum (x1 (ix3 b t h)) - (cum (x1 (ix3 b t h)) - cum (x1 (ix3 b t h))))
  else (0 : EReal)

include hq in
theorem qT_real (b : Fin 16) (h : Fin 8) (t : Fin 2048) (d : Fin 128) :
    qT x0 b h t d = ((if hd : d.val < 64 then qR (ix4 b t h ⟨d.val, hd⟩) * (1 / 8) / Real.log 2 else if d.val - 64 < 3 then 1 else 0 : ℝ) : EReal) := by
  unfold qT
  split_ifs
  · rw [hq, eighth, ← EReal.coe_mul, div_ln2]
  · simp
  · simp

include hc hk in
theorem kT_real (b : Fin 16) (h : Fin 8) (t : Fin 2048) (d : Fin 128) :
    kT x1 x2 b h t d = ((if hd : d.val < 64 then kR (ix4 b t h ⟨d.val, hd⟩) else if d.val = 64 then -(cR (ix3 b t h) / Real.log 2) else 0 : ℝ) : EReal) := by
  have e : cum (x1 (ix3 b t h)) = ((cR (ix3 b t h) / Real.log 2 : ℝ) : EReal) := by
    unfold cum; rw [hc, div_ln2]
  unfold kT
  simp only [e, ← EReal.coe_sub, ← EReal.coe_neg, sub_self, neg_zero, EReal.coe_zero]
  split_ifs <;> first | omega | simp [hk]

include hq hc hk in
theorem dot_real (b : Fin 16) (h : Fin 8) (t s : Fin 2048) :
    ∑ d, kT x1 x2 b h s d * qT x0 b h t d = (((sR qR kR cR b h t s - cR (ix3 b t h)) / Real.log 2 : ℝ) : EReal) := by
  simp only [qT_real hq, kT_real hc hk, ← EReal.coe_mul]
  rw [← coe_sum, sum128]
  congr 1
  have e1 : ∀ d : Fin 64, (if hd : d.val < 64 then kR (ix4 b s h ⟨d.val, hd⟩) else if d.val = 64 then -(cR (ix3 b s h) / Real.log 2) else 0) *
      (if hd : d.val < 64 then qR (ix4 b t h ⟨d.val, hd⟩) * (1 / 8) / Real.log 2 else if d.val - 64 < 3 then 1 else 0) =
      qR (ix4 b t h d) * kR (ix4 b s h d) * ((1 / 8) / Real.log 2) := by
    intro d
    rw [dif_pos d.isLt, dif_pos d.isLt]
    ring
  have e2 : ∀ d : Fin 64, (if hd : 64 + d.val < 64 then kR (ix4 b s h ⟨64 + d.val, hd⟩) else if 64 + d.val = 64 then -(cR (ix3 b s h) / Real.log 2) else 0) *
      (if hd : 64 + d.val < 64 then qR (ix4 b t h ⟨64 + d.val, hd⟩) * (1 / 8) / Real.log 2 else if 64 + d.val - 64 < 3 then 1 else 0) =
      if d = 0 then -(cR (ix3 b s h) / Real.log 2) else 0 := by
    intro d
    rw [dif_neg (by omega), dif_neg (by omega)]
    by_cases h0 : d = 0
    · subst h0; simp
    · have : d.val ≠ 0 := fun h => h0 (Fin.ext h)
      rw [if_neg (by omega), if_neg h0, zero_mul]
  simp only [e1, e2, Finset.sum_ite_eq', Finset.mem_univ, if_true]
  rw [← Finset.sum_mul]
  unfold sR
  have := log2_pos.ne'
  field_simp
  ring

include hq hc hk in
theorem sc_real (b : Fin 16) (h : Fin 8) (t s : Fin 2048) :
    sc x0 x1 x2 b h t s = if s.val ≤ t.val then ((sR qR kR cR b h t s : ℝ) : EReal) else ⊥ := by
  unfold sc sR
  by_cases hh : s.val ≤ t.val
  · rw [if_pos hh, if_pos hh, eighth]
    simp only [hq, hc, hk, ← EReal.coe_mul]
    rw [← coe_sum, ← EReal.coe_mul, ← EReal.coe_sub, ← EReal.coe_add]
  · rw [if_neg hh, if_neg hh]

include hq hc hk in
theorem mx_real (b : Fin 16) (h : Fin 8) (t : Fin 2048) : ∃ M : ℝ, mx x0 x1 x2 b h t = M := by
  unfold mx
  refine fold_real _ _ (fun s => ?_) ⟨0, by omega⟩ (Finset.mem_univ _) (sR qR kR cR b h t ⟨0, by omega⟩) ?_
  · rw [sc_real hq hc hk]
    split_ifs
    · exact .inr ⟨_, rfl⟩
    · exact .inl rfl
  · rw [sc_real hq hc hk, if_pos (Nat.zero_le _)]

include hq hc hk in
theorem exp_real (b : Fin 16) (h : Fin 8) (t s : Fin 2048) {M : ℝ} (hM : mx x0 x1 x2 b h t = M) :
    Ideal.exp (sc x0 x1 x2 b h t s - mx x0 x1 x2 b h t) = ((wR qR kR cR b h t M s.val : ℝ) : EReal) := by
  rw [sc_real hq hc hk, hM]
  unfold wR
  by_cases hh : s.val ≤ t.val
  · rw [if_pos hh, dif_pos hh, ← EReal.coe_sub, Ideal.exp_coe]
  · rw [if_neg hh, dif_neg hh]
    simp

include hq hc hk in
/-- The reference's sum is the weighted sum of the value row. -/
theorem ref_real (b : Fin 16) (h : Fin 8) (t : Fin 2048) {M : ℝ} (hM : mx x0 x1 x2 b h t = M) (Y : Fin 144 → ℕ → EReal) (r : Fin 144)
    (w : Fin 2048 → EReal) (hw : ∀ s, w s = Y r s.val) :
    ∑ s : Fin 2048, w s * Ideal.div (Ideal.exp (sc x0 x1 x2 b h t s - mx x0 x1 x2 b h t))
      (∑ s' : Fin 2048, Ideal.exp (sc x0 x1 x2 b h t s' - mx x0 x1 x2 b h t)) = res Y (wR qR kR cR b h t M) r := by
  simp only [exp_real hq hc hk b h t _ hM, hw]
  rw [← coe_sum, Fin.sum_univ_eq_sum_range (fun j => wR qR kR cR b h t M j) 2048]
  exact Fin.sum_univ_eq_sum_range (fun j => Y r j * Ideal.div ((wR qR kR cR b h t M j : ℝ) : EReal) _) 2048

end

end Cert.FoxIdeal.Attn

end
-- ==== Proof.Fox.Final.lean ====
/- The forgetting attention's result array after the run is the reference's, for real queries, keys and gates. -/
module

public import proofs.«01_k».proof.Proof.Fox.Weights

@[expose] public section

set_option maxRecDepth 16384

noncomputable section

namespace Cert.FoxIdeal.Attn

open Idealize.ShloMosaic Idealize.ShloMosaic.TcCoe Idealize.SL.Sem Cert.FoxIdeal Cert.FoxIdeal.Gen Cert.Attend Cert.Softmax
open Idealize.ShloMosaic.Pipeline (Dat)
open Cert.FoxRefIdeal.Attn (sc mx)

variable (m : (ℓ : Loc nD τ sig) → Buf (Elt Ideal) ℓ) (c : Dev nD)

/-- The windows' block indices: the batch entry is `t / 4`, the head group `t % 4`. -/
theorem idx : ∀ t : Fin cfg0.N, win0_0.index t = ![t.val / 4, t.val % 4, 0, 0] ∧ win0_1.index t = ![t.val / 4, t.val % 4, 0, 0]
    ∧ win0_2.index t = ![t.val / 4, 0, t.val % 4, 0, 0] ∧ win0_3.index t = ![t.val / 4, 0, t.val % 4] :=
  (by decide +kernel : ∀ t : Fin grid0.N, _)

theorem lt64 (t : Fin cfg0.N) : t.val < 64 := t.isLt
theorem lt16 (t : Fin cfg0.N) : t.val / 4 < 16 := by have := lt64 t; omega
theorem lt4 (t : Fin cfg0.N) : t.val % 4 < 4 := by omega
theorem lt8 (t : Fin cfg0.N) (hh : Fin 2) : 2 * (t.val % 4) + hh.val < 8 := by omega

theorem iq (t : Fin cfg0.N) (hh : Fin 2) (d : Fin 128) (s : Fin 2048) :
    (iblk m c 0 t : Vec Ideal S1x2x128x2048 .bf16) (ix4 0 hh d s) = V m c main_v21 (ix4 ⟨t.val / 4, by have := lt64 t; omega⟩ ⟨2 * (t.val % 4) + hh.val, by omega⟩ d s) := by
  blk_ext [iblk, idx t]

theorem ik (t : Fin cfg0.N) (hh : Fin 2) (s : Fin 2048) (d : Fin 128) :
    (iblk m c 1 t : Vec Ideal S1x2x2048x128 .bf16) (ix4 0 hh s d) = V m c main_v34 (ix4 ⟨t.val / 4, by have := lt64 t; omega⟩ ⟨2 * (t.val % 4) + hh.val, by omega⟩ s d) := by
  blk_ext [iblk, idx t]

theorem iv (t : Fin cfg0.N) (n : Fin 4) (r : Fin 144) (e : Fin 512) :
    (iblk m c 2 t : Vec Ideal S1x4x1x144x512 .bf16) (ix5 0 n 0 r e) = V m c main_v40 (ix5 ⟨t.val / 4, by have := lt64 t; omega⟩ n ⟨t.val % 4, by omega⟩ r e) := by
  blk_ext [iblk, idx t]

section
variable {qR kR : S16x2048x8x64.Idx → ℝ} {cR : S16x2048x8.Idx → ℝ}
variable (hq : ∀ i, (qArg m c i : EReal) = qR i) (hc : ∀ i, (cArg m c i : EReal) = cR i) (hk : ∀ i, (kArg m c i : EReal) = kR i)

/-- The value rows of head group `g`. -/
def yV (b : Fin 16) (g : Fin 4) (r : Fin 144) (j : ℕ) : EReal :=
  if hr : r.val < 128 then
    if hj : j < 2048 then vArg m c (ix4 b ⟨j, hj⟩ ⟨g.val * 2 + r.val / 64, by omega⟩ ⟨r.val % 64, by omega⟩) else 0
  else 1

/-- The key rows of a head. -/
def xK (b : Fin 16) (h : Fin 8) (j : ℕ) (d : Fin 128) : EReal := if hj : j < 2048 then kT (cArg m c) (kArg m c) b h ⟨j, hj⟩ d else 0

include hq hc hk in
theorem tiles (t : Fin cfg0.N) (hh : Fin 2) (s : Fin 2048) {b : Fin 16} {g : Fin 4} {h : Fin 8} (hb : b.val = t.val / 4) (hg : g.val = t.val % 4)
    (hH : h.val = 2 * (t.val % 4) + hh.val) (M : ℝ) :
    Tiles (iblk m c 0 t) (iblk m c 1 t) (iblk m c 2 t) hh s (yV m c b g) (wR qR kR cR b h s M) (sK qR kR cR b h s) (xK m c b h) (qT (qArg m c) b h s) := by
  obtain rfl : b = ⟨t.val / 4, lt16 t⟩ := Fin.ext hb
  obtain rfl : g = ⟨t.val % 4, lt4 t⟩ := Fin.ext hg
  obtain rfl : h = ⟨2 * (t.val % 4) + hh.val, lt8 t hh⟩ := Fin.ext hH
  refine ⟨sK_valid .., fun d => ?_, fun j d => ?_, fun n r e => ?_, fun j hj => ?_, fun j hj => ?_, fun j hj => ?_, fun j => wR_nonneg .., wR_sum_pos .., fun μ => sK_weight ..⟩
  · rw [iq, q_at]; rfl
  · rw [ik, k_at]; unfold xK; rw [dif_pos j.isLt]; rfl
  · rw [iv, v_at]; unfold yV
    split_ifs with hr hj
    · congr 2
      exact Fin.ext (by simp only; omega)
    · omega
    · rfl
  · have hj' : j < 2048 := by omega
    unfold xK sK
    rw [dif_pos hj]
    simp only [dif_pos hj']
    rw [dot_real hq hc hk]
  · unfold sK; rw [dif_neg (by omega)]
  · unfold yV; rw [dif_neg (by simp)]

include hq hc hk in
/-- The reference at the lane `l` of head group `g`. -/
theorem ref_at (b : Fin 16) (g : Fin 4) (s : Fin 2048) (l : Fin 128) {h : Fin 8} (hH : h.val = 2 * g.val + l.val / 64)
    {M : ℝ} (hM : mx (qArg m c) (cArg m c) (kArg m c) b h s = M) :
    (Cert.FoxRefIdeal.Read.val_main_v32 (F := Ideal) (qArg m c) (cArg m c) (kArg m c) (vArg m c) (ix3 b s ⟨128 * g.val + l.val, by omega⟩) : EReal) =
      res (yV m c b g) (wR qR kR cR b h s M) ⟨l.val, by omega⟩ := by
  rw [Cert.FoxRefIdeal.Attn.v32_at]
  have e : (⟨(128 * g.val + l.val) / 64, by omega⟩ : Fin 8) = h := Fin.ext (by simp only; omega)
  simp only [e]
  refine ref_real hq hc hk b h s hM (yV m c b g) ⟨l.val, by omega⟩ _ fun j => ?_
  unfold yV
  rw [dif_pos (by simp), dif_pos j.isLt]
  congr 2
  · exact Fin.ext (by simp only; omega)
  · exact Fin.ext (by simp only; omega)

include hq hc hk in
/-- What point `t` stores at query `s`, lane `l`. -/
theorem point (t : Fin cfg0.N) (p : FVec Ideal S1x512x128 .bf16) (cc : Fin 512) (l : Fin 128) (s : Fin 2048)
    (hp : ∀ {Y : Fin 144 → ℕ → EReal} {x x' : ℕ → ℝ} {S S' : ℕ → EReal} {X X' : ℕ → Fin 128 → EReal} {Q Q' : Fin 128 → EReal},
      Tiles (iblk m c 0 t) (iblk m c 1 t) (iblk m c 2 t) 0 s Y x S X Q → Tiles (iblk m c 0 t) (iblk m c 1 t) (iblk m c 2 t) 1 s Y x' S' X' Q' →
      (p (ix3 0 cc l) : EReal) = res Y (if l.val < 64 then x else x') ⟨l.val, by omega⟩) :
    (p (ix3 0 cc l) : EReal) = Cert.FoxRefIdeal.Read.val_main_v32 (F := Ideal) (qArg m c) (cArg m c) (kArg m c) (vArg m c)
      (ix3 ⟨t.val / 4, by have := lt64 t; omega⟩ s ⟨128 * (t.val % 4) + l.val, by omega⟩) := by
  have hN := lt64 t
  obtain ⟨M, hM⟩ := mx_real hq hc hk ⟨t.val / 4, by omega⟩ ⟨2 * (t.val % 4) + (0 : Fin 2).val, by simp; omega⟩ s
  obtain ⟨M', hM'⟩ := mx_real hq hc hk ⟨t.val / 4, by omega⟩ ⟨2 * (t.val % 4) + (1 : Fin 2).val, by simp; omega⟩ s
  rw [hp (tiles m c hq hc hk t 0 s (g := ⟨t.val % 4, by omega⟩) (h := ⟨2 * (t.val % 4) + (0 : Fin 2).val, by simp; omega⟩) (b := ⟨t.val / 4, by omega⟩) rfl rfl rfl M)
    (tiles m c hq hc hk t 1 s (g := ⟨t.val % 4, by omega⟩) (h := ⟨2 * (t.val % 4) + (1 : Fin 2).val, by simp; omega⟩) (b := ⟨t.val / 4, by omega⟩) rfl rfl rfl M')]
  by_cases hl : l.val < 64
  · rw [if_pos hl]
    exact (ref_at m c hq hc hk _ ⟨t.val % 4, by omega⟩ s l (by simp; omega) hM).symm
  · rw [if_neg hl]
    exact (ref_at m c hq hc hk _ ⟨t.val % 4, by omega⟩ s l (by simp; omega) hM').symm

include hq hc hk in
theorem final : (dats m 0 c).arrAt 3 cfg0.N =
    Cert.FoxRefIdeal.Read.val_main_v32 (F := Ideal) (qArg m c) (cArg m c) (kArg m c) (vArg m c) := by
  refine (dats m 0 c).arrAt_eq_of_covers 3 _ (by decide +kernel) fun t _ y => ?_
  blk_simp
  rw [after0_3, out_eq]
  have hN := lt64 t
  canon_tiles x hx
  · have ex : x = ix3 0 ⟨(x 1).val, x1_lt⟩ ⟨(x 2).val, x2_lt⟩ := by blk_ext
    have ey : (win0_3.blk t).view.emb y = ix3 ⟨t.val / 4, lt16 t⟩ ⟨1536 + (x 1).val, by omega⟩ ⟨128 * (t.val % 4) + (x 2).val, by omega⟩ := by
      blk_ext [idx t]
    rw [ey]
    exact (congrArg (piece3 (iblk m c 0 t) (iblk m c 1 t) (iblk m c 2 t)) ex).trans
      (point m c hq hc hk t _ _ _ _ fun T T' => piece3_at T T' (by simp) _)
  · have ex : x = ix3 0 ⟨(x 1).val, x1_lt⟩ ⟨(x 2).val, x2_lt⟩ := by blk_ext
    have ey : (win0_3.blk t).view.emb y = ix3 ⟨t.val / 4, lt16 t⟩ ⟨1024 + (x 1).val, by omega⟩ ⟨128 * (t.val % 4) + (x 2).val, by omega⟩ := by
      blk_ext [idx t]
    rw [ey]
    exact (congrArg (piece2 (iblk m c 0 t) (iblk m c 1 t) (iblk m c 2 t)) ex).trans
      (point m c hq hc hk t _ _ _ _ fun T T' => piece2_at T T' (by simp) _)
  · have ex : x = ix3 0 ⟨(x 1).val, x1_lt⟩ ⟨(x 2).val, x2_lt⟩ := by blk_ext
    have ey : (win0_3.blk t).view.emb y = ix3 ⟨t.val / 4, lt16 t⟩ ⟨512 + (x 1).val, by omega⟩ ⟨128 * (t.val % 4) + (x 2).val, by omega⟩ := by
      blk_ext [idx t]
    rw [ey]
    exact (congrArg (piece1 (iblk m c 0 t) (iblk m c 1 t) (iblk m c 2 t)) ex).trans
      (point m c hq hc hk t _ _ _ _ fun T T' => piece1_at T T' (by simp) _)
  · have ex : x = ix3 0 ⟨(x 1).val, x1_lt⟩ ⟨(x 2).val, x2_lt⟩ := by blk_ext
    have ey : (win0_3.blk t).view.emb y = ix3 ⟨t.val / 4, lt16 t⟩ ⟨0 + (x 1).val, by omega⟩ ⟨128 * (t.val % 4) + (x 2).val, by omega⟩ := by
      blk_ext [idx t]
    rw [ey]
    exact (congrArg (piece0 (iblk m c 0 t) (iblk m c 1 t) (iblk m c 2 t)) ex).trans
      (point m c hq hc hk t _ _ _ _ fun T T' => piece0_at T T' (by simp) _)

end

end Cert.FoxIdeal.Attn

end
-- ==== Proof.Fox.Finite.lean ====
/- The precondition: the queries, the keys and the gates are real numbers. -/
module

public import proofs.«01_k».proof.Defs
public import proofs.«01_k».proof.Proof.Gen.Pre_finite
public import Idealize.ShloMosaic.Lib.ReduceAll
public import Idealize.ShloMosaic.Lib.WordArith
public import Idealize.ShloMosaic.Lib.Affine
public import Idealize.ShloMosaic.Lib.Pipeline.ValueKit

@[expose] public section

set_option maxRecDepth 16384

noncomputable section

namespace Cert.Pre_finite.Real

open Idealize.ShloMosaic Idealize.SL.Sem Cert.Pre_finite

theorem inf_eq : Ideal.ofBits FTy.f32 0x7F800000#32 = (⊤ : EReal) := by simp [Ideal.ofBits, Ideal.ieee]

/-- An extended real whose absolute value is below infinity is a real. -/
theorem real_of_abs (x : EReal) (h : Ideal.cmp .olt (max x (-x)) (Ideal.ofBits FTy.f32 0x7F800000#32) = 1#1) : ∃ r : ℝ, x = r := by
  rw [inf_eq] at h
  induction x with
  | bot => simp [Ideal.cmp] at h
  | top => simp [Ideal.cmp] at h
  | coe r => exact ⟨r, rfl⟩

theorem reals (x0 : FVec Ideal S16x2048x8x64 .f32) (x1 : FVec Ideal S16x2048x8 .f32) (x2 x3 : FVec Ideal S16x2048x8x64 .f32)
    (h : Cert.Pre_finite.fn (F := Ideal) x0 x1 x2 x3 = fun _ => 1#1) :
    (∀ i, ∃ r : ℝ, (x0 i : EReal) = r) ∧ (∀ i, ∃ r : ℝ, (x1 i : EReal) = r) ∧ (∀ i, ∃ r : ℝ, (x2 i : EReal) = r) := by
  have e := congrFun h (Shape.Idx.first Cert.Pre_finite.Gen.h_S_)
  dsimp only [fn] at e
  obtain ⟨e1, e2⟩ := IntOp.andi_eq_one.1 e
  obtain ⟨e3, e4⟩ := IntOp.andi_eq_one.1 e1
  exact ⟨fun i => real_of_abs _ (Host.reduce_andi_all _ _ _ _ _ e3 i), fun i => real_of_abs _ (Host.reduce_andi_all _ _ _ _ _ e4 i),
    fun i => real_of_abs _ (Host.reduce_andi_all _ _ _ _ _ e2 i)⟩

end Cert.Pre_finite.Real

end
-- ==== Proof.Merge.Cond.lean ====
module

public import proofs.«01_k».proof.Proof.Gen.MergeIdeal.Frame
public import proofs.«01_k».proof.Proof.Gen.MergeIdeal.Skeleton
public import Idealize.ShloMosaic.Lib.Claim

@[expose] public section

noncomputable section

namespace Cert.MergeIdeal.Body

open Idealize.ShloMosaic Idealize.SL.Sem
open Cert.MergeIdeal.Gen

/-- The block is the first of its sequence, as the kernel tests it: its number is a multiple of four. -/
abbrev atStart (i : grid0.Coords) : Prop := Scalar.cmpi .ne (Scalar.extui (Scalar.cmpi .eq (Scalar.select (Scalar.andi (Scalar.xori (Scalar.cmpi .slt (Scalar.remsi (BitVec.ofNat 32 (i 0).val) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (BitVec.ofNat 32 (i 0).val) (Scalar.select (Scalar.cmpi .eq 4#32 0#32) 1#32 4#32)) 0#32)) (Scalar.addi (Scalar.remsi (BitVec.ofNat 32 (i 0).val) (Scalar.select (Scalar.cmpi .eq 4#32 0#32) 1#32 4#32)) (Scalar.select (Scalar.cmpi .eq 4#32 0#32) 1#32 4#32)) (Scalar.remsi (BitVec.ofNat 32 (i 0).val) (Scalar.select (Scalar.cmpi .eq 4#32 0#32) 1#32 4#32))) 0#32) : BitVec 32) 0#32 = 1#1

/-- The test holds at the points 0, 4, 8, … -/
theorem atStart_iff : ∀ t : Fin cfg0.N, atStart (grid0.coords t) ↔ t.val % 4 = 0 :=
  (by decide +kernel : ∀ t : Fin grid0.N, atStart (grid0.coords t) ↔ t.val % 4 = 0)

end Cert.MergeIdeal.Body

end
-- ==== Proof.Merge.RunA.lean ====
module

public import proofs.«01_k».proof.Proof.Merge.Cond

@[expose] public section

set_option maxRecDepth 16384

noncomputable section

namespace Cert.MergeIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MergeIdeal.Gen

variable {F : FTy → Type} [FloatOps F]

local notation "𝕄" => MT nD τ sig Unit (Elt F) ℕ (UR sig nD τ) ℕ

set_option maxHeartbeats 0 in
/-- The body at the first block of a sequence: the carried rows are the given earlier rows.
    The pieces are what the run finds: of the rows written, of the last rows, and of the carried rows. -/
def runA (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x5632 .bf16) (harg9 : arg9.IsWhole) (arg10 : Memref sig .tc .vmem S3x5632 .f32) (harg10 : arg10.IsWhole) (arg11 : Memref sig .tc .vmem S1x5632 .f32) (harg11 : arg11.IsWhole) (arg12 : Memref sig .tc .vmem S2816x1024 .bf16) (harg12 : arg12.IsWhole) (arg13 : Memref sig .tc .vmem S1x2x5632 .f32) (harg13 : arg13.IsWhole) (arg14 : Memref sig .tc .vmem S512x1024 .f32) (harg14 : arg14.IsWhole) (arg15 : Memref sig .tc .vmem S1x2x5632 .f32) (harg15 : arg15.IsWhole) (arg16 : Memref sig .tc .vmem S8x5632 .f32) (harg16 : arg16.IsWhole) (arg17 : Memref sig .tc .vmem S4x520x256 .f32) (harg17 : arg17.IsWhole) (arg18 : Memref sig .tc .vmem S512x2816 .bf16) (harg18 : arg18.IsWhole)
    (x0 : Vec F S512x1024 .f32) (x1 : Vec F S512x512 .bf16) (x2 : Vec F S512x512 .bf16) (x3 : Vec F S512x2048 .bf16) (x4 : Vec F S512x1024 .bf16) (x5 : Vec F S512x1024 .bf16) (x6 : Vec F S1024x1024 .bf16) (x7 : Vec F S1x1024 .f32) (x8 : Vec F S1024x5632 .bf16) (x9 : Vec F S3x5632 .f32) (x10 : Vec F S1x5632 .f32) (x11 : Vec F S2816x1024 .bf16) (x12 : Vec F S1x2x5632 .f32) (x13 : Vec F S8x5632 .f32) (hc : atStart i) :
    Σ' (L14 : List (View.Piece (Elt F) S512x1024 .f32)), Σ' (L15 : List (View.Piece (Elt F) S1x2x5632 .f32)), { L16 : List (View.Piece (Elt F) S8x5632 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ owns (c : Thread nD τ) arg16 fullShare x13 ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (arg16.view.loc (c : Thread nD τ) ↦[arg16.view.set]{fullShare} arg16.view.writes (Elt F) (harg16.unread x13) L16) ∗ (∃ d, owns (c : Thread nD τ) arg17 fullShare d) ∗ (∃ d, owns (c : Thread nD τ) arg18 fullShare d)) -∗ K ⟨⟩))
          ⊢ wp frame (wpE (defs₀ (F := F)) Variants.none c none) E (cc0_merge_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc0_merge_ffn_eq_skeleton]; unfold cc0_merge_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg16.eq_unread hfs0
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [HS0]; · iexact HS0
    isplitl [HS1]
    · iexists _, _; isplitr; swap; · iexact HS1
      ipureintro; rfl
    iexists _, _; isplitr; swap; · iexact HS2
    ipureintro; rfl

end Cert.MergeIdeal.Body

end
-- ==== Proof.Merge.RunB.lean ====
module

public import proofs.«01_k».proof.Proof.Merge.Cond

@[expose] public section

set_option maxRecDepth 16384

noncomputable section

namespace Cert.MergeIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MergeIdeal.Gen

variable {F : FTy → Type} [FloatOps F]

local notation "𝕄" => MT nD τ sig Unit (Elt F) ℕ (UR sig nD τ) ℕ

set_option maxHeartbeats 0 in
/-- The body at a later block of a sequence: the carried rows are what the block before left.
    The pieces are what the run finds: of the rows written, of the last rows, and of the carried rows. -/
def runB (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x5632 .bf16) (harg9 : arg9.IsWhole) (arg10 : Memref sig .tc .vmem S3x5632 .f32) (harg10 : arg10.IsWhole) (arg11 : Memref sig .tc .vmem S1x5632 .f32) (harg11 : arg11.IsWhole) (arg12 : Memref sig .tc .vmem S2816x1024 .bf16) (harg12 : arg12.IsWhole) (arg13 : Memref sig .tc .vmem S1x2x5632 .f32) (harg13 : arg13.IsWhole) (arg14 : Memref sig .tc .vmem S512x1024 .f32) (harg14 : arg14.IsWhole) (arg15 : Memref sig .tc .vmem S1x2x5632 .f32) (harg15 : arg15.IsWhole) (arg16 : Memref sig .tc .vmem S8x5632 .f32) (harg16 : arg16.IsWhole) (arg17 : Memref sig .tc .vmem S4x520x256 .f32) (harg17 : arg17.IsWhole) (arg18 : Memref sig .tc .vmem S512x2816 .bf16) (harg18 : arg18.IsWhole)
    (x0 : Vec F S512x1024 .f32) (x1 : Vec F S512x512 .bf16) (x2 : Vec F S512x512 .bf16) (x3 : Vec F S512x2048 .bf16) (x4 : Vec F S512x1024 .bf16) (x5 : Vec F S512x1024 .bf16) (x6 : Vec F S1024x1024 .bf16) (x7 : Vec F S1x1024 .f32) (x8 : Vec F S1024x5632 .bf16) (x9 : Vec F S3x5632 .f32) (x10 : Vec F S1x5632 .f32) (x11 : Vec F S2816x1024 .bf16) (x12 : Vec F S1x2x5632 .f32) (x13 : Vec F S8x5632 .f32) (hc : ¬atStart i) :
    Σ' (L14 : List (View.Piece (Elt F) S512x1024 .f32)), Σ' (L15 : List (View.Piece (Elt F) S1x2x5632 .f32)), { L16 : List (View.Piece (Elt F) S8x5632 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ owns (c : Thread nD τ) arg16 fullShare x13 ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (arg16.view.loc (c : Thread nD τ) ↦[arg16.view.set]{fullShare} arg16.view.writes (Elt F) (harg16.unread x13) L16) ∗ (∃ d, owns (c : Thread nD τ) arg17 fullShare d) ∗ (∃ d, owns (c : Thread nD τ) arg18 fullShare d)) -∗ K ⟨⟩))
          ⊢ wp frame (wpE (defs₀ (F := F)) Variants.none c none) E (cc0_merge_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc0_merge_ffn_eq_skeleton]; unfold cc0_merge_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg16.eq_unread hfs0
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [HS0]; · iexact HS0
    isplitl [HS1]
    · iexists _, _; isplitr; swap; · iexact HS1
      ipureintro; rfl
    iexists _, _; isplitr; swap; · iexact HS2
    ipureintro; rfl

end Cert.MergeIdeal.Body

end
-- ==== Proof.Merge.Step.lean ====
/- One point of the grid: the body over the windows' blocks and any carried rows. -/
module

public import proofs.«01_k».proof.Proof.Merge.RunA
public import proofs.«01_k».proof.Proof.Merge.RunB
public import Idealize.ShloMosaic.Lib.Claim

@[expose] public section

set_option maxRecDepth 16384

noncomputable section

namespace Cert.MergeIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MergeIdeal.Gen

variable {F : FTy → Type} [FloatOps F]

local notation "𝕄" => MT nD τ sig Unit (Elt F) ℕ (UR sig nD τ) ℕ

variable (m : (ℓ : Loc nD τ sig) → Buf (Elt F) ℓ)

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x5632 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S3x5632 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x5632 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2816x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2x5632 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x2x5632 .f32 := win0_14.stage (cfg0.slots t 14)
abbrev hs0_14 (t : Fin cfg0.N) : (ms0_14 t).IsWhole := hstage0_14 ((cfg0.slots t 14).cast nbuf0_14)
abbrev scM0_0 : Memref sig .tc .vmem S8x5632 .f32 := Memref.whole cc0_scratch0
abbrev scM0_1 : Memref sig .tc .vmem S4x520x256 .f32 := Memref.whole cc0_scratch1
abbrev scM0_2 : Memref sig .tc .vmem S512x2816 .bf16 := Memref.whole cc0_scratch2

/-- One staging buffer of each output: what the outputs hold is read through it. -/
abbrev VO13 : View sig .tc .vmem S512x1024 .f32 := (Memref.whole cc0_stg13_0 : Memref sig .tc .vmem S512x1024 .f32).view
abbrev VO14 : View sig .tc .vmem S1x2x5632 .f32 := (Memref.whole cc0_stg14_0 : Memref sig .tc .vmem S1x2x5632 .f32).view

/-- What the launch hands the region besides the windows: the scratch buffers at any contents, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The run at point `t`. -/
abbrev atA (c : Dev nD) (t : Fin cfg0.N) (x13 : Vec F S8x5632 .f32) (h : atStart (grid0.coords t)) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x13 h

theorem coverA_13 (c : Dev nD) (t : Fin cfg0.N) (x13 : Vec F S8x5632 .f32) (h : atStart (grid0.coords t)) (y : S512x1024.Idx) :
    ∃ pc ∈ (atA m c t x13 h).1, y ∈ pc.1.set :=
  View.cover_of_tiledL (atA m c t x13 h).1 S512x1024.size (by sl_kernel_rfl) y

theorem coverA_14 (c : Dev nD) (t : Fin cfg0.N) (x13 : Vec F S8x5632 .f32) (h : atStart (grid0.coords t)) (y : S1x2x5632.Idx) :
    ∃ pc ∈ (atA m c t x13 h).2.1, y ∈ pc.1.set :=
  View.cover_of_tiledL (atA m c t x13 h).2.1 S1x2x256.size (by sl_kernel_rfl) y

/-- What the run leaves: the rows written, the last rows, the carried rows. -/
def outA_13 (c : Dev nD) (t : Fin cfg0.N) (x13 : Vec F S8x5632 .f32) (h : atStart (grid0.coords t)) : Vec F S512x1024 .f32 :=
  VO13.read (Elt F) (VO13.writes (Elt F) VO13.junk (atA m c t x13 h).1)
def outA_14 (c : Dev nD) (t : Fin cfg0.N) (x13 : Vec F S8x5632 .f32) (h : atStart (grid0.coords t)) : Vec F S1x2x5632 .f32 :=
  VO14.read (Elt F) (VO14.writes (Elt F) VO14.junk (atA m c t x13 h).2.1)
def carryA (c : Dev nD) (t : Fin cfg0.N) (x13 : Vec F S8x5632 .f32) (h : atStart (grid0.coords t)) : Vec F S8x5632 .f32 :=
  scM0_0.view.read (Elt F) (scM0_0.view.writes (Elt F) ((Memref.isWhole_whole cc0_scratch0).unread x13) (atA m c t x13 h).2.2.1)

/-- The run at point `t`. -/
abbrev atB (c : Dev nD) (t : Fin cfg0.N) (x13 : Vec F S8x5632 .f32) (h : ¬ atStart (grid0.coords t)) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x13 h

theorem coverB_13 (c : Dev nD) (t : Fin cfg0.N) (x13 : Vec F S8x5632 .f32) (h : ¬ atStart (grid0.coords t)) (y : S512x1024.Idx) :
    ∃ pc ∈ (atB m c t x13 h).1, y ∈ pc.1.set :=
  View.cover_of_tiledL (atB m c t x13 h).1 S512x1024.size (by sl_kernel_rfl) y

theorem coverB_14 (c : Dev nD) (t : Fin cfg0.N) (x13 : Vec F S8x5632 .f32) (h : ¬ atStart (grid0.coords t)) (y : S1x2x5632.Idx) :
    ∃ pc ∈ (atB m c t x13 h).2.1, y ∈ pc.1.set :=
  View.cover_of_tiledL (atB m c t x13 h).2.1 S1x2x256.size (by sl_kernel_rfl) y

/-- What the run leaves: the rows written, the last rows, the carried rows. -/
def outB_13 (c : Dev nD) (t : Fin cfg0.N) (x13 : Vec F S8x5632 .f32) (h : ¬ atStart (grid0.coords t)) : Vec F S512x1024 .f32 :=
  VO13.read (Elt F) (VO13.writes (Elt F) VO13.junk (atB m c t x13 h).1)
def outB_14 (c : Dev nD) (t : Fin cfg0.N) (x13 : Vec F S8x5632 .f32) (h : ¬ atStart (grid0.coords t)) : Vec F S1x2x5632 .f32 :=
  VO14.read (Elt F) (VO14.writes (Elt F) VO14.junk (atB m c t x13 h).2.1)
def carryB (c : Dev nD) (t : Fin cfg0.N) (x13 : Vec F S8x5632 .f32) (h : ¬ atStart (grid0.coords t)) : Vec F S8x5632 .f32 :=
  scM0_0.view.read (Elt F) (scM0_0.view.writes (Elt F) ((Memref.isWhole_whole cc0_scratch0).unread x13) (atB m c t x13 h).2.2.1)

/-- The same at any point. -/
def out13 (c : Dev nD) (t : Fin cfg0.N) (x13 : Vec F S8x5632 .f32) : Vec F S512x1024 .f32 :=
  if h : atStart (grid0.coords t) then outA_13 m c t x13 h else outB_13 m c t x13 h
def out14 (c : Dev nD) (t : Fin cfg0.N) (x13 : Vec F S8x5632 .f32) : Vec F S1x2x5632 .f32 :=
  if h : atStart (grid0.coords t) then outA_14 m c t x13 h else outB_14 m c t x13 h
def carry (c : Dev nD) (t : Fin cfg0.N) (x13 : Vec F S8x5632 .f32) : Vec F S8x5632 .f32 :=
  if h : atStart (grid0.coords t) then carryA m c t x13 h else carryB m c t x13 h

set_option maxHeartbeats 1600000 in
/-- The body at any point, from any carried rows. -/
theorem step (c : Dev nD) (t : Fin cfg0.N) (x13 : Vec F S8x5632 .f32) (K : PUnit → sProp 𝕄) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t) ∗ owns (c : Thread nD τ) (ms0_12 t) fullShare (iblk m c 12 t) ∗ (∃ d, owns (c : Thread nD τ) (ms0_13 t) fullShare d) ∗ (∃ d, owns (c : Thread nD τ) (ms0_14 t) fullShare d) ∗ owns (c : Thread nD τ) scM0_0 fullShare x13 ∗ (∃ d, owns (c : Thread nD τ) scM0_1 fullShare d) ∗ (∃ d, owns (c : Thread nD τ) scM0_2 fullShare d) ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t) ∗ owns (c : Thread nD τ) (ms0_12 t) fullShare (iblk m c 12 t) ∗ owns (c : Thread nD τ) (ms0_13 t) fullShare (out13 m c t x13) ∗ owns (c : Thread nD τ) (ms0_14 t) fullShare (out14 m c t x13) ∗ owns (c : Thread nD τ) scM0_0 fullShare (carry m c t x13) ∗ (∃ d, owns (c : Thread nD τ) scM0_1 fullShare d) ∗ (∃ d, owns (c : Thread nD τ) scM0_2 fullShare d)) -∗ K ⟨⟩))
      ⊢ wp frame (wpE (defs₀ (F := F)) Variants.none c none) Set.univ (bodyAt0 t) K := by
  unfold bodyAt0
  by_cases h : atStart (grid0.coords t)
  · rw [show out13 m c t x13 = outA_13 m c t x13 h from dif_pos h, show out14 m c t x13 = outA_14 m c t x13 h from dif_pos h, show carry m c t x13 = carryA m c t x13 h from dif_pos h]
    iintro ⟨H0, H1, H2, H3, H4, H5, H6, H7, H8, H9, H10, H11, H12, H13, H14, HS0, HS1, HS2, Hk⟩
    iapply ((atA m c t x13 h).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HS0]; · iexact HS0
    isplitl [HS1]; · iexact HS1
    isplitl [HS2]; · iexact HS2
    iintro ⟨H0, H1, H2, H3, H4, H5, H6, H7, H8, H9, H10, H11, H12, ⟨%e13, H13⟩, ⟨%e14, H14⟩, HS0, HS1, HS2⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact View.read_writes_of_cover _ _ _ _ _ (coverA_13 m c t x13 h)
    isplitl [H14]
    · unfold owns; iexists _; isplitr
      swap; · iexact H14
      ipureintro; exact View.read_writes_of_cover _ _ _ _ _ (coverA_14 m c t x13 h)
    isplitl [HS0]
    · unfold owns; iexists _; isplitr
      swap; · iexact HS0
      ipureintro; rfl
    isplitl [HS1]; · iexact HS1
    iexact HS2
  · rw [show out13 m c t x13 = outB_13 m c t x13 h from dif_neg h, show out14 m c t x13 = outB_14 m c t x13 h from dif_neg h, show carry m c t x13 = carryB m c t x13 h from dif_neg h]
    iintro ⟨H0, H1, H2, H3, H4, H5, H6, H7, H8, H9, H10, H11, H12, H13, H14, HS0, HS1, HS2, Hk⟩
    iapply ((atB m c t x13 h).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HS0]; · iexact HS0
    isplitl [HS1]; · iexact HS1
    isplitl [HS2]; · iexact HS2
    iintro ⟨H0, H1, H2, H3, H4, H5, H6, H7, H8, H9, H10, H11, H12, ⟨%e13, H13⟩, ⟨%e14, H14⟩, HS0, HS1, HS2⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact View.read_writes_of_cover _ _ _ _ _ (coverB_13 m c t x13 h)
    isplitl [H14]
    · unfold owns; iexists _; isplitr
      swap; · iexact H14
      ipureintro; exact View.read_writes_of_cover _ _ _ _ _ (coverB_14 m c t x13 h)
    isplitl [HS0]
    · unfold owns; iexists _; isplitr
      swap; · iexact HS0
      ipureintro; rfl
    isplitl [HS1]; · iexact HS1
    iexact HS2

end Cert.MergeIdeal.Body

end
-- ==== Proof.Merge.Quiet.lean ====
/- The run with the two results forgotten: the arguments end unchanged and every semaphore at zero. -/
module

public import proofs.«01_k».proof.Proof.Merge.Step

@[expose] public section

set_option maxRecDepth 16384

noncomputable section

namespace Cert.MergeIdeal.Quiet

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MergeIdeal.Gen Cert.MergeIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows nothing is said of: the two results. -/
def forgets : Fin 15 → Bool := fun w => w.val == 13 || w.val == 14

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
    | ⟨14, h⟩ => Pipeline.Dat.unnamed (cfg := cfg0) ⟨14, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ X, owns (c : Thread nD τ) (ms0_13 t) fullShare X)
    ∗ (∃ X, owns (c : Thread nD τ) (ms0_14 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ (∃ X, owns (c : Thread nD τ) (ms0_13 t) fullShare X)
    ∗ (∃ X, owns (c : Thread nD τ) (ms0_14 t) fullShare X))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9, before0_10, before0_11, before0_12]
  rw [show (dats m 0 c).owesAt () t.succ = (dats m 0 c).owesAt () t.castSucc from rfl, after0_0, after0_1, after0_2, after0_3, after0_4, after0_5, after0_6, after0_7, after0_8, after0_9, after0_10, after0_11, after0_12]
  rw [show (dats m 0 c).Φ t.succ = Pipeline.ΦA spec0 c from rfl, show (dats m 0 c).Φ t.castSucc = Pipeline.ΦA spec0 c from rfl, PhiA0_eq]
  iintro ⟨⟨⟨⟨%x13, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13, H14⟩
  iapply (step m c t x13 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [HS0]; · iexact HS0
  isplitl [HS1]; · iexact HS1
  isplitl [HS2]; · iexact HS2
  iintro ⟨H0, H1, H2, H3, H4, H5, H6, H7, H8, H9, H10, H11, H12, H13, H14, HS0, HS1, HS2⟩
  isplitl [HS0 HS1 HS2 Hg]
  · isplitl [HS0 HS1 HS2]
    · isplitl [HS0]; · iexists _; iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iexists _; iexact H14

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r =>
    Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end unchanged, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      (Pipeline.RDat.FramePost.arr_in h.1 c 9 rfl).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c)⟩, h.2⟩) (run_main m ρ)

end Cert.MergeIdeal.Quiet

end
-- ==== Proof.Merge.Model.lean ====
/- One row of the merged branches and of the convolved feed-forward network, as plain functions of the row's data and the weights. -/
module

public import Idealize.ShloMosaic.Lib.Pipeline.ValueKit

@[expose] public section

noncomputable section

namespace Cert.MergeModel

open Idealize.ShloMosaic

/-- The weights. -/
structure W where
  /-- The first branch's output projection. -/
  wa : Fin 512 → Fin 1024 → EReal
  /-- The second branch's output projection. -/
  wb : Fin 512 → Fin 1024 → EReal
  /-- The projection of the joined branches. -/
  wo : Fin 1024 → Fin 1024 → EReal
  /-- The norm's gains. -/
  g : Fin 1024 → EReal
  /-- The up projection. -/
  wu : Fin 1024 → Fin 5632 → EReal
  /-- The convolution's three taps. -/
  cw : Fin 3 → Fin 5632 → EReal
  /-- The convolution's bias. -/
  cb : Fin 5632 → EReal
  /-- The down projection. -/
  wd : Fin 2816 → Fin 1024 → EReal

/-- The logistic function, as both programs compute it. -/
def sg (x : EReal) : EReal := Ideal.div 1 (1 + Ideal.exp (-x))

/-- The gated sum of the two branches' projections. -/
def join (w : W) (oa ob : Fin 512 → EReal) (ga gb : Fin 1024 → EReal) (k : Fin 1024) : EReal :=
  ga k * (∑ l : Fin 512, oa l * w.wa l k) + gb k * ∑ l : Fin 512, ob l * w.wb l k

/-- The residual row. -/
def res (w : W) (x : Fin 1024 → EReal) (oa ob : Fin 512 → EReal) (ga gb : Fin 1024 → EReal) (j : Fin 1024) : EReal :=
  x j + ∑ k : Fin 1024, join w oa ob ga gb k * w.wo k j

/-- The normalised row. -/
def nrm (w : W) (x : Fin 1024 → EReal) (k : Fin 1024) : EReal :=
  x k * Ideal.rsqrt (Ideal.div (∑ l : Fin 1024, x l * x l) (Ideal.ofBits FTy.f32 0x44800000#32) + Ideal.ofBits FTy.f32 0x358637BD#32) * w.g k

/-- The row before the convolution. -/
def up (w : W) (x : Fin 1024 → EReal) (j : Fin 5632) : EReal := ∑ k : Fin 1024, nrm w x k * w.wu k j

/-- The convolution of three successive rows. -/
def conv (w : W) (u2 u1 u0 : Fin 5632 → EReal) (j : Fin 5632) : EReal :=
  w.cw 0 j * u2 j + w.cw 1 j * u1 j + w.cw 2 j * u0 j + w.cb j

/-- The gated row. -/
def act (w : W) (u2 u1 u0 : Fin 5632 → EReal) (k : Fin 2816) : EReal :=
  conv w u2 u1 u0 ⟨k.val, by omega⟩ * sg (conv w u2 u1 u0 ⟨k.val, by omega⟩) * conv w u2 u1 u0 ⟨2816 + k.val, by omega⟩

/-- The result row. -/
def out (w : W) (x : Fin 1024 → EReal) (u2 u1 u0 : Fin 5632 → EReal) (j : Fin 1024) : EReal :=
  x j + ∑ k : Fin 2816, act w u2 u1 u0 k * w.wd k j

/-- A sum over the gated row, cut after its fifth chunk. -/
theorem sum_cut (f : Fin 2816 → EReal) :
    (∑ k : Fin 2816, f k) = (∑ k : Fin 1280, f ⟨k.val, by omega⟩) + ∑ k : Fin 1536, f ⟨1280 + k.val, by omega⟩ :=
  Fin.sum_univ_add (a := 1280) (b := 1536) f

end Cert.MergeModel

end
-- ==== Proof.Merge.Tiles.lean ====
/- The body's tiles, as functions of the blocks, and what each holds at an index. -/
module

public import proofs.«01_k».proof.Proof.Gen.MergeIdeal.Skeleton
public import proofs.«01_k».proof.Proof.Merge.Model
public import Idealize.ShloMosaic.Lib.Pipeline.ValueKit

@[expose] public section

set_option maxRecDepth 16384

noncomputable section

namespace Cert.MergeIdeal.Body

open Idealize.ShloMosaic Idealize.SL.Sem Cert.MergeIdeal Cert.MergeIdeal.Gen Cert.MergeModel

/-- Where a tile of 256 columns lies. -/
theorem inCols {R r o k : ℕ} (hr : k + r ≤ R) (h : o + 256 ≤ 5632) :
    ∀ a, (![k, o] : Fin 2 → ℕ) a + (![r, 256] : Fin 2 → ℕ) a ≤ (![R, 5632] : Fin 2 → ℕ) a := by
  intro a
  fin_cases a
  · exact hr
  · exact h

section

variable (x0 : FVec Ideal S512x1024 .f32) (x1 x2 : FVec Ideal S512x512 .bf16) (x3 : FVec Ideal S512x2048 .bf16)
  (x4 x5 : FVec Ideal S512x1024 .bf16) (x6 : FVec Ideal S1024x1024 .bf16) (x7 : FVec Ideal S1x1024 .f32)
  (x8 : FVec Ideal S1024x5632 .bf16) (x9 : FVec Ideal S3x5632 .f32) (x10 : FVec Ideal S1x5632 .f32) (x11 : FVec Ideal S2816x1024 .bf16)
  (N : FVec Ideal S512x1024 .bf16) (H : (o : ℕ) → o + 256 ≤ 5632 → FVec Ideal S2x256 .f32)

/-- The gated sum, the residual and its normalisation. -/
def joinT : FVec Ideal S512x1024 .f32 :=
  k0_pay3 x1 x4 x2 x5 (View.ld x3 (Rect.unit (s := S512x2048) ![0, 0] S512x1024.size inb_S512x2048_S512x1024_0_0))
    (View.ld x3 (Rect.unit (s := S512x2048) ![0, 1024] S512x1024.size inb_S512x2048_S512x1024_0_1024))
def resT : FVec Ideal S512x1024 .f32 := k0_pay5 (joinT x1 x2 x3 x4 x5) (k0_pay4 x0) x6
def nrmT : FVec Ideal S512x1024 .bf16 := k0_pay6 (joinT x1 x2 x3 x4 x5) (k0_pay4 x0) x6 x7

/-- A tile of the rows before the convolution. -/
def upT (o : ℕ) (h : o + 256 ≤ 5632) : FVec Ideal S512x256 .f32 :=
  k0_pay23 N (View.ld x8 (Rect.unit (s := S1024x5632) ![0, o] S1024x256.size (inCols (le_refl 1024) h)))

/-- The rows before a tile's, from the two before its first. -/
def shift (d : ℕ) (Q : Vec Ideal S1x2x256 .f32) (P : Vec Ideal S1x512x256 .f32) : Vec Ideal S1x512x256 .f32 := fun j =>
  if hq : (j 1).val + d < 2 then Q (ix3 0 ⟨(j 1).val + d, hq⟩ ⟨(j 2).val, (j 2).isLt⟩)
  else if hr : (j 1).val + d - 2 < 512 then P (ix3 0 ⟨(j 1).val + d - 2, hr⟩ ⟨(j 2).val, (j 2).isLt⟩) else P j

def shifted (d : ℕ) (hst : FVec Ideal S2x256 .f32) (u : FVec Ideal S512x256 .f32) : Vec Ideal S1x512x256 .f32 :=
  shift d (k0_pay11 (F := Ideal) hst) (k0_pay12 (F := Ideal) u)

def tapT (k : ℕ) (hk : k + 1 ≤ 3) (o : ℕ) (h : o + 256 ≤ 5632) : Vec Ideal S1x256 .f32 :=
  View.ld (Val := Elt Ideal) (e' := .f32) x9 (Rect.unit (s := S3x5632) ![k, o] S1x256.size (inCols hk h))

/-- A tile of the convolution. -/
def convT (o : ℕ) (h : o + 256 ≤ 5632) : FVec Ideal S512x256 .f32 :=
  k0_pay14 (upT x8 N o h) (tapT x9 0 (by decide) o h) (tapT x9 1 (by decide) o h) (tapT x9 2 (by decide) o h)
    (shifted 1 (H o h) (upT x8 N o h)) (shifted 0 (H o h) (upT x8 N o h)) (View.ld x10 (Rect.unit (s := S1x5632) ![0, o] S1x256.size (inCols (le_refl 1) h)))

/-- A tile of the gated rows. -/
def actT (o o' : ℕ) (h : o + 256 ≤ 5632) (h' : o' + 256 ≤ 5632) : FVec Ideal S512x256 .bf16 :=
  k0_pay22 (convT x8 x9 x10 N H o h) (convT x8 x9 x10 N H o' h')

/-- The last two rows of a tile. -/
def lastT (o : ℕ) (h : o + 256 ≤ 5632) : FVec Ideal S2x256 .f32 := k0_pay15 (upT x8 N o h)
def lastT' (o : ℕ) (h : o + 256 ≤ 5632) : FVec Ideal S1x2x256 .f32 := k0_pay13 (upT x8 N o h)

theorem joinT_at (w : W) (r : Fin 512) (oa ob : Fin 512 → EReal) (ga gb : Fin 1024 → EReal)
    (h1 : ∀ l, (x1 (ix2 r l) : EReal) = oa l) (h2 : ∀ l, (x2 (ix2 r l) : EReal) = ob l)
    (h3 : ∀ k : Fin 1024, (x3 (ix2 r ⟨k.val, by omega⟩) : EReal) = ga k) (h3' : ∀ k : Fin 1024, (x3 (ix2 r ⟨1024 + k.val, by omega⟩) : EReal) = gb k)
    (h4 : ∀ l k, (x4 (ix2 l k) : EReal) = w.wa l k) (h5 : ∀ l k, (x5 (ix2 l k) : EReal) = w.wb l k) (k : Fin 1024) :
    (joinT x1 x2 x3 x4 x5 (ix2 r k) : EReal) = join w oa ob ga gb k := by
  unfold join
  simp only [← h1, ← h2, ← h3, ← h3', ← h4, ← h5]
  unfold joinT
  pointwise [k0_pay3]
  blk_ext

theorem resT_at (w : W) (r : Fin 512) (x : Fin 1024 → EReal) (oa ob : Fin 512 → EReal) (ga gb : Fin 1024 → EReal)
    (h0 : ∀ k, (x0 (ix2 r k) : EReal) = x k) (h6 : ∀ l k, (x6 (ix2 l k) : EReal) = w.wo l k)
    (hj : ∀ k, (joinT x1 x2 x3 x4 x5 (ix2 r k) : EReal) = join w oa ob ga gb k) (j : Fin 1024) :
    (resT x0 x1 x2 x3 x4 x5 x6 (ix2 r j) : EReal) = res w x oa ob ga gb j := by
  unfold res
  simp only [← h0, ← h6, ← hj]
  unfold resT
  generalize joinT x1 x2 x3 x4 x5 = J
  pointwise [k0_pay5, k0_pay4]

theorem nrmT_at (w : W) (r : Fin 512) (x : Fin 1024 → EReal) (h7 : ∀ k, (x7 (ix2 0 k) : EReal) = w.g k)
    (hr : ∀ k, (resT x0 x1 x2 x3 x4 x5 x6 (ix2 r k) : EReal) = x k) (k : Fin 1024) :
    (nrmT x0 x1 x2 x3 x4 x5 x6 x7 (ix2 r k) : EReal) = nrm w x k := by
  unfold nrm
  simp only [← h7, ← hr]
  unfold resT nrmT
  unfold k0_pay6
  generalize k0_pay5 (joinT x1 x2 x3 x4 x5) (k0_pay4 x0) x6 = R
  pointwise

theorem upT_at (w : W) (r : Fin 512) (x : Fin 1024 → EReal) (h8 : ∀ l k, (x8 (ix2 l k) : EReal) = w.wu l k)
    (hN : ∀ k, (N (ix2 r k) : EReal) = nrm w x k) (o : ℕ) (h : o + 256 ≤ 5632) (j : Fin 256) :
    (upT x8 N o h (ix2 r j) : EReal) = up w x ⟨o + j.val, by omega⟩ := by
  unfold up
  simp only [← h8, ← hN]
  unfold upT
  pointwise [k0_pay23]
  blk_ext

/-- The row `n` counted from the two before the tile's first. -/
def rowAt (hr : Fin 2 → Fin 5632 → EReal) (ur : Fin 512 → Fin 5632 → EReal) (n : ℕ) : Fin 5632 → EReal :=
  if h : n < 2 then hr ⟨n, h⟩ else if h' : n - 2 < 512 then ur ⟨n - 2, h'⟩ else ur 0

variable (w : W) (hr : Fin 2 → Fin 5632 → EReal) (ur : Fin 512 → Fin 5632 → EReal)

theorem shifted_at (o : ℕ) (h : o + 256 ≤ 5632) (hst : FVec Ideal S2x256 .f32) (u : FVec Ideal S512x256 .f32)
    (hh : ∀ q (j : Fin 256), (hst (ix2 q j) : EReal) = hr q ⟨o + j.val, by omega⟩)
    (hu : ∀ q (j : Fin 256), (u (ix2 q j) : EReal) = ur q ⟨o + j.val, by omega⟩) (d : ℕ) (r : Fin 512) (hd : d ≤ 2) (j : Fin 256) :
    (shifted d hst u (ix3 0 r j) : EReal) = rowAt hr ur (r.val + d) ⟨o + j.val, by omega⟩ := by
  have e11 : ∀ q, k0_pay11 hst (ix3 0 q j) = hst (ix2 q j) := fun q => by pointwise [k0_pay11]
  have e12 : ∀ q, k0_pay12 u (ix3 0 q j) = u (ix2 q j) := fun q => by pointwise [k0_pay12]
  unfold shifted shift rowAt
  by_cases h1 : r.val + d < 2
  · rw [dif_pos (show ((ix3 (0 : Fin 1) r j) 1).val + d < 2 from h1), dif_pos h1]
    exact (e11 _).trans (hh _ _)
  · have h2 : r.val + d - 2 < 512 := by omega
    rw [dif_neg (show ¬ ((ix3 (0 : Fin 1) r j) 1).val + d < 2 from h1), dif_neg h1,
      dif_pos (show ((ix3 (0 : Fin 1) r j) 1).val + d - 2 < 512 from h2), dif_pos h2]
    exact (e12 _).trans (hu _ _)

theorem convT_at (h9 : ∀ k l, (x9 (ix2 k l) : EReal) = w.cw k l) (h10 : ∀ l, (x10 (ix2 0 l) : EReal) = w.cb l)
    (o : ℕ) (h : o + 256 ≤ 5632) (hh : ∀ q (j : Fin 256), (H o h (ix2 q j) : EReal) = hr q ⟨o + j.val, by omega⟩)
    (hu : ∀ q (j : Fin 256), (upT x8 N o h (ix2 q j) : EReal) = ur q ⟨o + j.val, by omega⟩) (r : Fin 512) (j : Fin 256) :
    (convT x8 x9 x10 N H o h (ix2 r j) : EReal) = conv w (rowAt hr ur r.val) (rowAt hr ur (r.val + 1)) (ur r) ⟨o + j.val, by omega⟩ := by
  have e0 := shifted_at hr ur o h (H o h) (upT x8 N o h) hh hu 0 r (by decide) j
  have e1 := shifted_at hr ur o h (H o h) (upT x8 N o h) hh hu 1 r (by decide) j
  unfold conv
  rw [← h9, ← h9, ← h9, ← h10, ← hu, ← e1]
  rw [Nat.add_zero] at e0
  rw [← e0]
  unfold convT tapT
  generalize upT x8 N o h = U
  generalize shifted 0 (H o h) U = B
  generalize shifted 1 (H o h) U = A
  pointwise [k0_pay14]
  blk_ext

theorem actT_at (o o' : ℕ) (h : o + 256 ≤ 2816) (ho : o' = 2816 + o) (h' : o' + 256 ≤ 5632) (u2 u1 u0 : Fin 5632 → EReal) (r : Fin 512)
    (hc : ∀ q (hq : q + 256 ≤ 5632) (j : Fin 256), (convT x8 x9 x10 N H q hq (ix2 r j) : EReal) = conv w u2 u1 u0 ⟨q + j.val, by omega⟩)
    (j : Fin 256) : (actT x8 x9 x10 N H o o' (by omega) h' (ix2 r j) : EReal) = act w u2 u1 u0 ⟨o + j.val, by omega⟩ := by
  subst ho
  have e := hc o (by omega) j
  have e' := hc (2816 + o) h' j
  have a : act w u2 u1 u0 ⟨o + j.val, by omega⟩ = conv w u2 u1 u0 ⟨o + j.val, by omega⟩ * sg (conv w u2 u1 u0 ⟨o + j.val, by omega⟩)
      * conv w u2 u1 u0 ⟨2816 + o + j.val, by omega⟩ := by unfold act; simp only [Nat.add_assoc]
  rw [a, ← e, ← e']
  unfold actT
  generalize convT x8 x9 x10 N H o (by omega) = P
  generalize convT x8 x9 x10 N H (2816 + o) h' = Q
  pointwise [k0_pay22]
  rfl

theorem lastT_at (o : ℕ) (h : o + 256 ≤ 5632) (hu : ∀ q (j : Fin 256), (upT x8 N o h (ix2 q j) : EReal) = ur q ⟨o + j.val, by omega⟩)
    (q : Fin 2) (j : Fin 256) : (lastT x8 N o h (ix2 q j) : EReal) = ur ⟨510 + q.val, by omega⟩ ⟨o + j.val, by omega⟩ := by
  rw [← hu]
  unfold lastT
  generalize upT x8 N o h = U
  pointwise [k0_pay15]

theorem lastT'_at (o : ℕ) (h : o + 256 ≤ 5632) (hu : ∀ q (j : Fin 256), (upT x8 N o h (ix2 q j) : EReal) = ur q ⟨o + j.val, by omega⟩)
    (q : Fin 2) (j : Fin 256) : (lastT' x8 N o h (ix3 0 q j) : EReal) = ur ⟨510 + q.val, by omega⟩ ⟨o + j.val, by omega⟩ := by
  rw [← hu]
  unfold lastT'
  generalize upT x8 N o h = U
  pointwise [k0_pay13]

end

end Cert.MergeIdeal.Body

end
-- ==== Proof.Merge.Slot.lean ====
/- What a slot of the shift's scratch reads back, one or two rows up. -/
module

public import proofs.«01_k».proof.Proof.Merge.Tiles
public import Idealize.ShloMosaic.Lib.Pipeline.ReadBack

@[expose] public section

set_option maxRecDepth 16384

noncomputable section

namespace Cert.MergeIdeal.Body

open Idealize.ShloMosaic Idealize.SL.Sem Cert.MergeIdeal Cert.MergeIdeal.Gen

theorem slot_read {sp : Space} (v : View sig .tc sp S4x520x256 .f32) (s d : ℕ)
    (h8 : ∀ a, (![s, 8, 0] : Fin 3 → ℕ) a + S1x512x256.size a ≤ S4x520x256.size a)
    (h6 : ∀ a, (![s, 6, 0] : Fin 3 → ℕ) a + S1x2x256.size a ≤ S4x520x256.size a)
    (hd : ∀ a, (![s, 6 + d, 0] : Fin 3 → ℕ) a + S1x512x256.size a ≤ S4x520x256.size a) (h2 : d < 2)
    (P : Vec Ideal S1x512x256 .f32) (Q : Vec Ideal S1x2x256 .f32) (L : List (View.Piece (Elt Ideal) S4x520x256 .f32)) :
    v.readCov (⟨Rect.unit ![s, 8, 0] S1x512x256.size h8, P⟩ :: ⟨Rect.unit ![s, 6, 0] S1x2x256.size h6, Q⟩ :: L)
      (Rect.unit (s := S4x520x256) ![s, 6 + d, 0] S1x512x256.size hd).toLoadRect = shift d Q P := by
  rw [View.readCov_eq_canon']
  funext j
  unfold shift
  have hB (a : Fin 3) : ((Rect.unit (s := S4x520x256) ![s, 6 + d, 0] S1x512x256.size hd).toLoadRect.idx j a).val
      = (![s, 6 + d, 0] : Fin 3 → ℕ) a + (j a).val := Rect.idx_unit_val (s := S4x520x256) ![s, 6 + d, 0] S1x512x256.size hd j a
  have j0 : (j 0).val < 1 := (j 0).isLt
  have j1 : (j 1).val < 512 := (j 1).isLt
  have j2 : (j 2).val < 256 := (j 2).isLt
  by_cases h1 : (j 1).val + d < 2
  · rw [dif_pos h1]
    have e : (Rect.unit (s := S4x520x256) ![s, 6 + d, 0] S1x512x256.size hd).toLoadRect.idx j
        = (Rect.unit (s := S4x520x256) ![s, 6, 0] S1x2x256.size h6).emb (ix3 0 ⟨(j 1).val + d, h1⟩ ⟨(j 2).val, (j 2).isLt⟩) := by
      funext a
      refine Fin.ext ((hB a).trans ((Rect.idx_unit_val (s := S4x520x256) ![s, 6, 0] S1x2x256.size h6 _ a).trans ?_).symm)
      fin_cases a
      · show s + 0 = s + (j 0).val; omega
      · show 6 + ((j 1).val + d) = 6 + d + (j 1).val; omega
      · rfl
    refine (View.canon_cons_of_not_mem _ _ ?_).trans ?_
    · exact Rect.not_mem_set_of_axis _ _ 1 8 512 rfl rfl rfl (Or.inl (lt_of_eq_of_lt (hB 1) (show 6 + d + (j 1).val < 8 by omega)))
    · exact (congrArg _ e).trans (View.canon_cons_emb _ _ _ _)
  · have hr : (j 1).val + d - 2 < 512 := by omega
    rw [dif_neg h1, dif_pos hr]
    have e : (Rect.unit (s := S4x520x256) ![s, 6 + d, 0] S1x512x256.size hd).toLoadRect.idx j
        = (Rect.unit (s := S4x520x256) ![s, 8, 0] S1x512x256.size h8).emb (ix3 0 ⟨(j 1).val + d - 2, hr⟩ ⟨(j 2).val, (j 2).isLt⟩) := by
      funext a
      refine Fin.ext ((hB a).trans ((Rect.idx_unit_val (s := S4x520x256) ![s, 8, 0] S1x512x256.size h8 _ a).trans ?_).symm)
      fin_cases a
      · show s + 0 = s + (j 0).val; omega
      · show 8 + ((j 1).val + d - 2) = 6 + d + (j 1).val; omega
      · rfl
    exact (congrArg _ e).trans (View.canon_cons_emb _ _ _ _)

/-- One row up. -/
theorem slot_one {sp : Space} (v : View sig .tc sp S4x520x256 .f32) (s : ℕ) (h8 h6 hd) (P : Vec Ideal S1x512x256 .f32)
    (Q : Vec Ideal S1x2x256 .f32) (L : List (View.Piece (Elt Ideal) S4x520x256 .f32)) :
    v.readCov (⟨Rect.unit ![s, 8, 0] ![1, 512, 256] h8, P⟩ :: ⟨Rect.unit ![s, 6, 0] ![1, 2, 256] h6, Q⟩ :: L)
      (Rect.unit (s := S4x520x256) ![s, 7, 0] ![1, 512, 256] hd).toLoadRect = shift 1 Q P := slot_read v s 1 h8 h6 hd (by decide) P Q L

/-- Two rows up. -/
theorem slot_two {sp : Space} (v : View sig .tc sp S4x520x256 .f32) (s : ℕ) (h8 h6 hd) (P : Vec Ideal S1x512x256 .f32)
    (Q : Vec Ideal S1x2x256 .f32) (L : List (View.Piece (Elt Ideal) S4x520x256 .f32)) :
    v.readCov (⟨Rect.unit ![s, 8, 0] ![1, 512, 256] h8, P⟩ :: ⟨Rect.unit ![s, 6, 0] ![1, 2, 256] h6, Q⟩ :: L)
      (Rect.unit (s := S4x520x256) ![s, 6, 0] ![1, 512, 256] hd).toLoadRect = shift 0 Q P := slot_read v s 0 h8 h6 hd (by decide) P Q L

end Cert.MergeIdeal.Body

end
-- ==== Proof.Merge.Lists.lean ====
/- The pieces the body leaves, over the tiles. -/
module

public import proofs.«01_k».proof.Proof.Merge.Slot

@[expose] public section

set_option maxRecDepth 16384

noncomputable section

namespace Cert.MergeIdeal.Body

open Idealize.ShloMosaic Idealize.SL.Sem Cert.MergeIdeal Cert.MergeIdeal.Gen

section

variable (x0 : FVec Ideal S512x1024 .f32) (x1 x2 : FVec Ideal S512x512 .bf16) (x3 : FVec Ideal S512x2048 .bf16)
  (x4 x5 : FVec Ideal S512x1024 .bf16) (x6 : FVec Ideal S1024x1024 .bf16) (x7 : FVec Ideal S1x1024 .f32)
  (x8 : FVec Ideal S1024x5632 .bf16) (x9 : FVec Ideal S3x5632 .f32) (x10 : FVec Ideal S1x5632 .f32) (x11 : FVec Ideal S2816x1024 .bf16)
  (N : FVec Ideal S512x1024 .bf16) (H : (o : ℕ) → o + 256 ≤ 5632 → FVec Ideal S2x256 .f32)

/-- The two rows before a tile's first: of the state, and of the rows carried. -/
def histA (x12 : Vec Ideal S1x2x5632 .f32) (o : ℕ) (h : o + 256 ≤ 5632) : FVec Ideal S2x256 .f32 :=
  View.ld (Val := Elt Ideal) (e' := .f32) (k0_pay2 (F := Ideal) x12) (Rect.unit (s := S2x5632) ![0, o] S2x256.size (inCols (le_refl 2) h))
def histB (x13 : Vec Ideal S8x5632 .f32) (o : ℕ) (h : o + 256 ≤ 5632) : FVec Ideal S2x256 .f32 :=
  View.ld (Val := Elt Ideal) (e' := .f32) x13 (Rect.unit (s := S8x5632) ![0, o] S2x256.size (inCols (by decide) h))

/-- A tile of the gated rows, stored. -/
def actP (o : ℕ) (h : o + 256 ≤ 2816) : View.Piece (Elt Ideal) S512x2816 .bf16 :=
  ⟨Rect.unit (s := S512x2816) ![0, o] S512x256.size (by intro a; fin_cases a; exacts [le_refl 512, h]), actT x8 x9 x10 N H o (2816 + o) (by omega) (by omega)⟩

/-- A tile's last two rows, stored. -/
def lastP (o : ℕ) (h : o + 256 ≤ 5632) : View.Piece (Elt Ideal) S1x2x5632 .f32 :=
  ⟨Rect.unit (s := S1x2x5632) ![0, 0, o] S1x2x256.size (by intro a; fin_cases a; exacts [le_refl 1, le_refl 2, h]), lastT' x8 N o h⟩
def carryP (o : ℕ) (h : o + 256 ≤ 5632) : View.Piece (Elt Ideal) S8x5632 .f32 :=
  ⟨Rect.unit (s := S8x5632) ![0, o] S2x256.size (inCols (by decide) h), lastT x8 N o h⟩

def actsLow : List (View.Piece (Elt Ideal) S512x2816 .bf16) :=
  [actP x8 x9 x10 N H 1024 (by decide), actP x8 x9 x10 N H 768 (by decide), actP x8 x9 x10 N H 512 (by decide), actP x8 x9 x10 N H 256 (by decide), actP x8 x9 x10 N H 0 (by decide)]
def actsHigh : List (View.Piece (Elt Ideal) S512x2816 .bf16) :=
  actP x8 x9 x10 N H 2560 (by decide) ::
    actP x8 x9 x10 N H 2304 (by decide) ::
    actP x8 x9 x10 N H 2048 (by decide) ::
    actP x8 x9 x10 N H 1792 (by decide) ::
    actP x8 x9 x10 N H 1536 (by decide) ::
    actP x8 x9 x10 N H 1280 (by decide) :: actsLow x8 x9 x10 N H
def lasts : List (View.Piece (Elt Ideal) S1x2x5632 .f32) :=
  [lastP x8 N 5376 (by decide), lastP x8 N 2560 (by decide), lastP x8 N 5120 (by decide), lastP x8 N 2304 (by decide), lastP x8 N 4864 (by decide), lastP x8 N 2048 (by decide), lastP x8 N 4608 (by decide), lastP x8 N 1792 (by decide), lastP x8 N 4352 (by decide), lastP x8 N 1536 (by decide), lastP x8 N 4096 (by decide), lastP x8 N 1280 (by decide), lastP x8 N 3840 (by decide), lastP x8 N 1024 (by decide), lastP x8 N 3584 (by decide), lastP x8 N 768 (by decide), lastP x8 N 3328 (by decide), lastP x8 N 512 (by decide), lastP x8 N 3072 (by decide), lastP x8 N 256 (by decide), lastP x8 N 2816 (by decide), lastP x8 N 0 (by decide)]
def carries : List (View.Piece (Elt Ideal) S8x5632 .f32) :=
  [carryP x8 N 5376 (by decide), carryP x8 N 2560 (by decide), carryP x8 N 5120 (by decide), carryP x8 N 2304 (by decide), carryP x8 N 4864 (by decide), carryP x8 N 2048 (by decide), carryP x8 N 4608 (by decide), carryP x8 N 1792 (by decide), carryP x8 N 4352 (by decide), carryP x8 N 1536 (by decide), carryP x8 N 4096 (by decide), carryP x8 N 1280 (by decide), carryP x8 N 3840 (by decide), carryP x8 N 1024 (by decide), carryP x8 N 3584 (by decide), carryP x8 N 768 (by decide), carryP x8 N 3328 (by decide), carryP x8 N 512 (by decide), carryP x8 N 3072 (by decide), carryP x8 N 256 (by decide), carryP x8 N 2816 (by decide), carryP x8 N 0 (by decide)]

/-- The gated rows, read back for the two halves of the last product. -/
def lowT : Vec Ideal S512x1280 .bf16 := fun j =>
  View.canon (actsLow x8 x9 x10 N H) ((Rect.unit (s := S512x2816) ![0, 0] S512x1280.size inb_S512x2816_S512x1280_0_0).toLoadRect.idx j)
def highT : Vec Ideal S512x1536 .bf16 := fun j =>
  View.canon (actsHigh x8 x9 x10 N H) ((Rect.unit (s := S512x2816) ![0, 1280] S512x1536.size inb_S512x2816_S512x1536_0_1280).toLoadRect.idx j)

/-- The rows written. -/
def rowsT : FVec Ideal S512x1024 .f32 :=
  k0_pay1 (k0_pay80 (resT x0 x1 x2 x3 x4 x5 x6) (lowT x8 x9 x10 (nrmT x0 x1 x2 x3 x4 x5 x6 x7) H)
      (View.ld x11 (Rect.unit (s := S2816x1024) ![0, 0] S1280x1024.size inb_S2816x1024_S1280x1024_0_0)))
    (highT x8 x9 x10 (nrmT x0 x1 x2 x3 x4 x5 x6 x7) H)
    (View.ld (Val := Elt Ideal) (e' := .bf16) x11 (Rect.unit (s := S2816x1024) ![1280, 0] S1536x1024.size inb_S2816x1024_S1536x1024_1280_0))

/-- The first tiles are computed from the gated sum itself. -/
theorem cut7 (J X : FVec Ideal S512x1024 .f32) (wo : Vec Ideal S1024x1024 .bf16) (g : Vec Ideal S1x1024 .f32) (wu : Vec Ideal S1024x256 .bf16) :
    k0_pay7 J X wo g wu = k0_pay23 (k0_pay6 J X wo g) wu := rfl
theorem cut8 (J X : FVec Ideal S512x1024 .f32) (wo : Vec Ideal S1024x1024 .bf16) (g : Vec Ideal S1x1024 .f32) (wu : Vec Ideal S1024x256 .bf16) :
    k0_pay8 J X wo g wu = k0_pay23 (k0_pay6 J X wo g) wu := rfl
theorem cut9 (J X : FVec Ideal S512x1024 .f32) (wo : Vec Ideal S1024x1024 .bf16) (g : Vec Ideal S1x1024 .f32) (wu : Vec Ideal S1024x256 .bf16) :
    k0_pay9 J X wo g wu = k0_pay23 (k0_pay6 J X wo g) wu := rfl
theorem cut10 (J X : FVec Ideal S512x1024 .f32) (wo : Vec Ideal S1024x1024 .bf16) (g : Vec Ideal S1x1024 .f32) (wu : Vec Ideal S1024x256 .bf16) :
    k0_pay10 J X wo g wu = k0_pay23 (k0_pay6 J X wo g) wu := rfl

/-- The state's rows as the first stores leave them, read back. -/
theorem hist_read {sp : Space} (v : View sig .tc sp S8x5632 .f32) (o : ℕ)
    (h2 : ∀ a, (![0, 0] : Fin 2 → ℕ) a + ![2, 5632] a ≤ S8x5632.size a) (hi : ∀ a, (![0, o] : Fin 2 → ℕ) a + ![2, 256] a ≤ S8x5632.size a)
    (Z : Vec Ideal S2x5632 .f32) (L : List (View.Piece (Elt Ideal) S8x5632 .f32)) :
    v.readCov (⟨Rect.unit ![0, 0] ![2, 5632] h2, Z⟩ :: L) (Rect.unit (s := S8x5632) ![0, o] ![2, 256] hi).toLoadRect
      = View.ld (Val := Elt Ideal) (e' := .f32) Z (Rect.unit (s := S2x5632) ![0, o] ![2, 256] (inCols (le_refl 2) (hi 1))) := by
  rw [View.readCov_eq_canon']
  funext j
  have e : (Rect.unit (s := S8x5632) ![0, o] ![2, 256] hi).toLoadRect.idx j
      = (Rect.unit (s := S8x5632) ![0, 0] ![2, 5632] h2).emb ((Rect.unit (s := S2x5632) ![0, o] ![2, 256] (inCols (le_refl 2) (hi 1))).emb j) := by
    funext a
    have e1 := Rect.idx_unit_val (s := S8x5632) ![0, o] ![2, 256] hi j a
    have e2 := Rect.idx_unit_val (s := S8x5632) ![0, 0] ![2, 5632] h2
      ((Rect.unit (s := S2x5632) ![0, o] ![2, 256] (inCols (le_refl 2) (hi 1))).emb j) a
    have e3 := Rect.idx_unit_val (s := S2x5632) ![0, o] ![2, 256] (inCols (le_refl 2) (hi 1)) j a
    refine Fin.ext (e1.trans (e2.trans ((congrArg _ e3).trans ?_)).symm)
    fin_cases a <;> exact Nat.zero_add _
  exact (congrArg _ e).trans (View.canon_cons_emb _ _ _ _)

end

end Cert.MergeIdeal.Body

end
-- ==== Proof.Merge.EqA.lean ====
/- The pieces the body leaves at the first block of a sequence. -/
module

public import proofs.«01_k».proof.Proof.Merge.Lists
public import proofs.«01_k».proof.Proof.Merge.RunA
public import Idealize.ShloMosaic.Lib.Tactic.RunNames

@[expose] public section

set_option maxRecDepth 16384

noncomputable section

namespace Cert.MergeIdeal.Body

open Idealize.ShloMosaic Idealize.ShloMosaic.TcCoe Idealize.ShloMosaic.Tactic
open Idealize.SL.Sem Cert.MergeIdeal.Gen

set_option maxHeartbeats 0 in
/-- The last rows. -/
theorem runA_lasts (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x5632 .bf16) (harg9 : arg9.IsWhole) (arg10 : Memref sig .tc .vmem S3x5632 .f32) (harg10 : arg10.IsWhole) (arg11 : Memref sig .tc .vmem S1x5632 .f32) (harg11 : arg11.IsWhole) (arg12 : Memref sig .tc .vmem S2816x1024 .bf16) (harg12 : arg12.IsWhole) (arg13 : Memref sig .tc .vmem S1x2x5632 .f32) (harg13 : arg13.IsWhole) (arg14 : Memref sig .tc .vmem S512x1024 .f32) (harg14 : arg14.IsWhole) (arg15 : Memref sig .tc .vmem S1x2x5632 .f32) (harg15 : arg15.IsWhole) (arg16 : Memref sig .tc .vmem S8x5632 .f32) (harg16 : arg16.IsWhole) (arg17 : Memref sig .tc .vmem S4x520x256 .f32) (harg17 : arg17.IsWhole) (arg18 : Memref sig .tc .vmem S512x2816 .bf16) (harg18 : arg18.IsWhole)
    (x0 : Vec Ideal S512x1024 .f32) (x1 : Vec Ideal S512x512 .bf16) (x2 : Vec Ideal S512x512 .bf16) (x3 : Vec Ideal S512x2048 .bf16) (x4 : Vec Ideal S512x1024 .bf16) (x5 : Vec Ideal S512x1024 .bf16) (x6 : Vec Ideal S1024x1024 .bf16) (x7 : Vec Ideal S1x1024 .f32) (x8 : Vec Ideal S1024x5632 .bf16) (x9 : Vec Ideal S3x5632 .f32) (x10 : Vec Ideal S1x5632 .f32) (x11 : Vec Ideal S2816x1024 .bf16) (x12 : Vec Ideal S1x2x5632 .f32) (x13 : Vec Ideal S8x5632 .f32) (hc : atStart i) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 hc).2.1 = lasts x8 (nrmT x0 x1 x2 x3 x4 x5 x6 x7) := by
  unfold runA
  dsimp only
  sl_unfold_run_values
  unfold lasts lastP lastT' upT nrmT joinT
  simp (disch := decide) only [View.readAt_eq_ld, Memref.IsWhole.read_unread, View.ld_unit_lit]
  simp only [Nat.reduceAdd, cut7, cut8, cut9, cut10, k0_pay1, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160]

set_option maxHeartbeats 0 in
/-- The carried rows. -/
theorem runA_carries (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x5632 .bf16) (harg9 : arg9.IsWhole) (arg10 : Memref sig .tc .vmem S3x5632 .f32) (harg10 : arg10.IsWhole) (arg11 : Memref sig .tc .vmem S1x5632 .f32) (harg11 : arg11.IsWhole) (arg12 : Memref sig .tc .vmem S2816x1024 .bf16) (harg12 : arg12.IsWhole) (arg13 : Memref sig .tc .vmem S1x2x5632 .f32) (harg13 : arg13.IsWhole) (arg14 : Memref sig .tc .vmem S512x1024 .f32) (harg14 : arg14.IsWhole) (arg15 : Memref sig .tc .vmem S1x2x5632 .f32) (harg15 : arg15.IsWhole) (arg16 : Memref sig .tc .vmem S8x5632 .f32) (harg16 : arg16.IsWhole) (arg17 : Memref sig .tc .vmem S4x520x256 .f32) (harg17 : arg17.IsWhole) (arg18 : Memref sig .tc .vmem S512x2816 .bf16) (harg18 : arg18.IsWhole)
    (x0 : Vec Ideal S512x1024 .f32) (x1 : Vec Ideal S512x512 .bf16) (x2 : Vec Ideal S512x512 .bf16) (x3 : Vec Ideal S512x2048 .bf16) (x4 : Vec Ideal S512x1024 .bf16) (x5 : Vec Ideal S512x1024 .bf16) (x6 : Vec Ideal S1024x1024 .bf16) (x7 : Vec Ideal S1x1024 .f32) (x8 : Vec Ideal S1024x5632 .bf16) (x9 : Vec Ideal S3x5632 .f32) (x10 : Vec Ideal S1x5632 .f32) (x11 : Vec Ideal S2816x1024 .bf16) (x12 : Vec Ideal S1x2x5632 .f32) (x13 : Vec Ideal S8x5632 .f32) (hc : atStart i) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 hc).2.2.1 = carries x8 (nrmT x0 x1 x2 x3 x4 x5 x6 x7) ++ [⟨Rect.unit (s := S8x5632) ![0, 0] S2x5632.size inb_S8x5632_S2x5632_0_0, k0_pay2 (F := Ideal) x12⟩] := by
  unfold runA
  dsimp only
  sl_unfold_run_values
  simp only [runA.sl.HS0_1, runA.sl.HS0_2, runA.sl.HS0_3, runA.sl.HS0_4, runA.sl.HS0_5, runA.sl.HS0_6, runA.sl.HS0_7, runA.sl.HS0_8, runA.sl.HS0_9, runA.sl.HS0_10, runA.sl.HS0_11, runA.sl.HS0_12, runA.sl.HS0_13, runA.sl.HS0_14, runA.sl.HS0_15, runA.sl.HS0_16, runA.sl.HS0_17, runA.sl.HS0_18, runA.sl.HS0_19, runA.sl.HS0_20, runA.sl.HS0_21, runA.sl.HS0_22]
  sl_unfold_run_values
  unfold carries carryP lastT upT nrmT joinT
  simp (disch := decide) only [View.readAt_eq_ld, Memref.IsWhole.read_unread, View.ld_unit_lit, List.cons_append, List.nil_append]
  simp only [Nat.reduceAdd, cut7, cut8, cut9, cut10, k0_pay1, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160]

set_option maxHeartbeats 0 in
/-- The rows written. -/
theorem runA_rows (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x5632 .bf16) (harg9 : arg9.IsWhole) (arg10 : Memref sig .tc .vmem S3x5632 .f32) (harg10 : arg10.IsWhole) (arg11 : Memref sig .tc .vmem S1x5632 .f32) (harg11 : arg11.IsWhole) (arg12 : Memref sig .tc .vmem S2816x1024 .bf16) (harg12 : arg12.IsWhole) (arg13 : Memref sig .tc .vmem S1x2x5632 .f32) (harg13 : arg13.IsWhole) (arg14 : Memref sig .tc .vmem S512x1024 .f32) (harg14 : arg14.IsWhole) (arg15 : Memref sig .tc .vmem S1x2x5632 .f32) (harg15 : arg15.IsWhole) (arg16 : Memref sig .tc .vmem S8x5632 .f32) (harg16 : arg16.IsWhole) (arg17 : Memref sig .tc .vmem S4x520x256 .f32) (harg17 : arg17.IsWhole) (arg18 : Memref sig .tc .vmem S512x2816 .bf16) (harg18 : arg18.IsWhole)
    (x0 : Vec Ideal S512x1024 .f32) (x1 : Vec Ideal S512x512 .bf16) (x2 : Vec Ideal S512x512 .bf16) (x3 : Vec Ideal S512x2048 .bf16) (x4 : Vec Ideal S512x1024 .bf16) (x5 : Vec Ideal S512x1024 .bf16) (x6 : Vec Ideal S1024x1024 .bf16) (x7 : Vec Ideal S1x1024 .f32) (x8 : Vec Ideal S1024x5632 .bf16) (x9 : Vec Ideal S3x5632 .f32) (x10 : Vec Ideal S1x5632 .f32) (x11 : Vec Ideal S2816x1024 .bf16) (x12 : Vec Ideal S1x2x5632 .f32) (x13 : Vec Ideal S8x5632 .f32) (hc : atStart i) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 hc).1
      = [⟨Rect.unit (s := S512x1024) ![0, 0] S512x1024.size inb_S512x1024_S512x1024_0_0, rowsT x0 x1 x2 x3 x4 x5 x6 x7 x8 x9 x10 x11 (histA x12)⟩] := by
  unfold runA
  dsimp only
  sl_unfold_run_values
  simp only [runA.sl.HS2_5, runA.sl.HS2_11, View.readCov_eq_canon' arg18.view]
  sl_unfold_run_values
  simp only [runA.sl.HS1_2, runA.sl.HS1_4, runA.sl.HS1_6, runA.sl.HS1_8, runA.sl.HS1_10, runA.sl.HS1_12, runA.sl.HS1_14, runA.sl.HS1_16, runA.sl.HS1_18, runA.sl.HS1_20, runA.sl.HS1_22, runA.sl.HS1_24, runA.sl.HS1_26, runA.sl.HS1_28, runA.sl.HS1_30, runA.sl.HS1_32, runA.sl.HS1_34, runA.sl.HS1_36, runA.sl.HS1_38, runA.sl.HS1_40, runA.sl.HS1_42, runA.sl.HS1_44, slot_one, slot_two]
  sl_unfold_run_values
  simp (disch := decide) only [runA.sl.HS0_1, runA.sl.HS0_2, runA.sl.HS0_3, runA.sl.HS0_4, runA.sl.HS0_5, runA.sl.HS0_6, runA.sl.HS0_7, runA.sl.HS0_8, runA.sl.HS0_9, runA.sl.HS0_10, runA.sl.HS0_11, runA.sl.HS0_12, runA.sl.HS0_13, runA.sl.HS0_14, runA.sl.HS0_15, runA.sl.HS0_16, runA.sl.HS0_17, runA.sl.HS0_18, runA.sl.HS0_19, runA.sl.HS0_20, runA.sl.HS0_21, runA.sl.HS0_22, View.readCov_skip, hist_read]
  sl_unfold_run_values
  simp (disch := decide) only [View.readAt_eq_ld, Memref.IsWhole.read_unread, View.ld_unit_lit]
  unfold rowsT resT nrmT joinT lowT highT actsHigh actsLow actP actT convT tapT shifted upT histA
  simp only [Nat.reduceAdd, cut7, cut8, cut9, cut10, k0_pay1, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160]
  rfl

end Cert.MergeIdeal.Body

end
-- ==== Proof.Merge.EqB.lean ====
/- The pieces the body leaves at a later block of a sequence. -/
module

public import proofs.«01_k».proof.Proof.Merge.Lists
public import proofs.«01_k».proof.Proof.Merge.RunB
public import Idealize.ShloMosaic.Lib.Tactic.RunNames

@[expose] public section

set_option maxRecDepth 16384

noncomputable section

namespace Cert.MergeIdeal.Body

open Idealize.ShloMosaic Idealize.ShloMosaic.TcCoe Idealize.ShloMosaic.Tactic
open Idealize.SL.Sem Cert.MergeIdeal.Gen

set_option maxHeartbeats 0 in
/-- The last rows. -/
theorem runB_lasts (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x5632 .bf16) (harg9 : arg9.IsWhole) (arg10 : Memref sig .tc .vmem S3x5632 .f32) (harg10 : arg10.IsWhole) (arg11 : Memref sig .tc .vmem S1x5632 .f32) (harg11 : arg11.IsWhole) (arg12 : Memref sig .tc .vmem S2816x1024 .bf16) (harg12 : arg12.IsWhole) (arg13 : Memref sig .tc .vmem S1x2x5632 .f32) (harg13 : arg13.IsWhole) (arg14 : Memref sig .tc .vmem S512x1024 .f32) (harg14 : arg14.IsWhole) (arg15 : Memref sig .tc .vmem S1x2x5632 .f32) (harg15 : arg15.IsWhole) (arg16 : Memref sig .tc .vmem S8x5632 .f32) (harg16 : arg16.IsWhole) (arg17 : Memref sig .tc .vmem S4x520x256 .f32) (harg17 : arg17.IsWhole) (arg18 : Memref sig .tc .vmem S512x2816 .bf16) (harg18 : arg18.IsWhole)
    (x0 : Vec Ideal S512x1024 .f32) (x1 : Vec Ideal S512x512 .bf16) (x2 : Vec Ideal S512x512 .bf16) (x3 : Vec Ideal S512x2048 .bf16) (x4 : Vec Ideal S512x1024 .bf16) (x5 : Vec Ideal S512x1024 .bf16) (x6 : Vec Ideal S1024x1024 .bf16) (x7 : Vec Ideal S1x1024 .f32) (x8 : Vec Ideal S1024x5632 .bf16) (x9 : Vec Ideal S3x5632 .f32) (x10 : Vec Ideal S1x5632 .f32) (x11 : Vec Ideal S2816x1024 .bf16) (x12 : Vec Ideal S1x2x5632 .f32) (x13 : Vec Ideal S8x5632 .f32) (hc : ¬atStart i) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 hc).2.1 = lasts x8 (nrmT x0 x1 x2 x3 x4 x5 x6 x7) := by
  unfold runB
  dsimp only
  sl_unfold_run_values
  unfold lasts lastP lastT' upT nrmT joinT
  simp (disch := decide) only [View.readAt_eq_ld, Memref.IsWhole.read_unread, View.ld_unit_lit]
  simp only [Nat.reduceAdd, cut7, cut8, cut9, cut10, k0_pay1, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160]

set_option maxHeartbeats 0 in
/-- The carried rows. -/
theorem runB_carries (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x5632 .bf16) (harg9 : arg9.IsWhole) (arg10 : Memref sig .tc .vmem S3x5632 .f32) (harg10 : arg10.IsWhole) (arg11 : Memref sig .tc .vmem S1x5632 .f32) (harg11 : arg11.IsWhole) (arg12 : Memref sig .tc .vmem S2816x1024 .bf16) (harg12 : arg12.IsWhole) (arg13 : Memref sig .tc .vmem S1x2x5632 .f32) (harg13 : arg13.IsWhole) (arg14 : Memref sig .tc .vmem S512x1024 .f32) (harg14 : arg14.IsWhole) (arg15 : Memref sig .tc .vmem S1x2x5632 .f32) (harg15 : arg15.IsWhole) (arg16 : Memref sig .tc .vmem S8x5632 .f32) (harg16 : arg16.IsWhole) (arg17 : Memref sig .tc .vmem S4x520x256 .f32) (harg17 : arg17.IsWhole) (arg18 : Memref sig .tc .vmem S512x2816 .bf16) (harg18 : arg18.IsWhole)
    (x0 : Vec Ideal S512x1024 .f32) (x1 : Vec Ideal S512x512 .bf16) (x2 : Vec Ideal S512x512 .bf16) (x3 : Vec Ideal S512x2048 .bf16) (x4 : Vec Ideal S512x1024 .bf16) (x5 : Vec Ideal S512x1024 .bf16) (x6 : Vec Ideal S1024x1024 .bf16) (x7 : Vec Ideal S1x1024 .f32) (x8 : Vec Ideal S1024x5632 .bf16) (x9 : Vec Ideal S3x5632 .f32) (x10 : Vec Ideal S1x5632 .f32) (x11 : Vec Ideal S2816x1024 .bf16) (x12 : Vec Ideal S1x2x5632 .f32) (x13 : Vec Ideal S8x5632 .f32) (hc : ¬atStart i) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 hc).2.2.1 = carries x8 (nrmT x0 x1 x2 x3 x4 x5 x6 x7) := by
  unfold runB
  dsimp only
  sl_unfold_run_values
  unfold carries carryP lastT upT nrmT joinT
  simp (disch := decide) only [View.readAt_eq_ld, Memref.IsWhole.read_unread, View.ld_unit_lit]
  simp only [Nat.reduceAdd, cut7, cut8, cut9, cut10, k0_pay1, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160]

set_option maxHeartbeats 0 in
/-- The rows written. -/
theorem runB_rows (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x5632 .bf16) (harg9 : arg9.IsWhole) (arg10 : Memref sig .tc .vmem S3x5632 .f32) (harg10 : arg10.IsWhole) (arg11 : Memref sig .tc .vmem S1x5632 .f32) (harg11 : arg11.IsWhole) (arg12 : Memref sig .tc .vmem S2816x1024 .bf16) (harg12 : arg12.IsWhole) (arg13 : Memref sig .tc .vmem S1x2x5632 .f32) (harg13 : arg13.IsWhole) (arg14 : Memref sig .tc .vmem S512x1024 .f32) (harg14 : arg14.IsWhole) (arg15 : Memref sig .tc .vmem S1x2x5632 .f32) (harg15 : arg15.IsWhole) (arg16 : Memref sig .tc .vmem S8x5632 .f32) (harg16 : arg16.IsWhole) (arg17 : Memref sig .tc .vmem S4x520x256 .f32) (harg17 : arg17.IsWhole) (arg18 : Memref sig .tc .vmem S512x2816 .bf16) (harg18 : arg18.IsWhole)
    (x0 : Vec Ideal S512x1024 .f32) (x1 : Vec Ideal S512x512 .bf16) (x2 : Vec Ideal S512x512 .bf16) (x3 : Vec Ideal S512x2048 .bf16) (x4 : Vec Ideal S512x1024 .bf16) (x5 : Vec Ideal S512x1024 .bf16) (x6 : Vec Ideal S1024x1024 .bf16) (x7 : Vec Ideal S1x1024 .f32) (x8 : Vec Ideal S1024x5632 .bf16) (x9 : Vec Ideal S3x5632 .f32) (x10 : Vec Ideal S1x5632 .f32) (x11 : Vec Ideal S2816x1024 .bf16) (x12 : Vec Ideal S1x2x5632 .f32) (x13 : Vec Ideal S8x5632 .f32) (hc : ¬atStart i) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 hc).1
      = [⟨Rect.unit (s := S512x1024) ![0, 0] S512x1024.size inb_S512x1024_S512x1024_0_0, rowsT x0 x1 x2 x3 x4 x5 x6 x7 x8 x9 x10 x11 (histB x13)⟩] := by
  unfold runB
  dsimp only
  sl_unfold_run_values
  simp only [runB.sl.HS2_5, runB.sl.HS2_11, View.readCov_eq_canon' arg18.view]
  sl_unfold_run_values
  simp only [runB.sl.HS1_2, runB.sl.HS1_4, runB.sl.HS1_6, runB.sl.HS1_8, runB.sl.HS1_10, runB.sl.HS1_12, runB.sl.HS1_14, runB.sl.HS1_16, runB.sl.HS1_18, runB.sl.HS1_20, runB.sl.HS1_22, runB.sl.HS1_24, runB.sl.HS1_26, runB.sl.HS1_28, runB.sl.HS1_30, runB.sl.HS1_32, runB.sl.HS1_34, runB.sl.HS1_36, runB.sl.HS1_38, runB.sl.HS1_40, runB.sl.HS1_42, runB.sl.HS1_44, slot_one, slot_two]
  sl_unfold_run_values
  simp (disch := decide) only [View.readAt_eq_ld, Memref.IsWhole.read_unread, View.ld_unit_lit]
  unfold rowsT resT nrmT joinT lowT highT actsHigh actsLow actP actT convT tapT shifted upT histB
  simp only [Nat.reduceAdd, cut7, cut8, cut9, cut10, k0_pay1, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160]
  rfl

end Cert.MergeIdeal.Body

end
-- ==== Proof.Merge.Values.lean ====
/- What the pieces leave at an index. -/
module

public import proofs.«01_k».proof.Proof.Merge.Lists
public import Idealize.ShloMosaic.Lib.Pipeline.ReadBack
public import Idealize.ShloMosaic.Lib.Ring

@[expose] public section

set_option maxRecDepth 16384

noncomputable section

namespace Cert.MergeIdeal.Body

open Idealize.ShloMosaic Idealize.SL.Sem Cert.MergeIdeal Cert.MergeIdeal.Gen Cert.MergeModel

section

variable (x0 : FVec Ideal S512x1024 .f32) (x1 x2 : FVec Ideal S512x512 .bf16) (x3 : FVec Ideal S512x2048 .bf16)
  (x4 x5 : FVec Ideal S512x1024 .bf16) (x6 : FVec Ideal S1024x1024 .bf16) (x7 : FVec Ideal S1x1024 .f32)
  (x8 : FVec Ideal S1024x5632 .bf16) (x9 : FVec Ideal S3x5632 .f32) (x10 : FVec Ideal S1x5632 .f32) (x11 : FVec Ideal S2816x1024 .bf16)
  (N : FVec Ideal S512x1024 .bf16) (H : (o : ℕ) → o + 256 ≤ 5632 → FVec Ideal S2x256 .f32)

/-- Where a piece's columns lie. -/
theorem emb_cols {R C r o : ℕ} (inb : ∀ a, (![0, o] : Fin 2 → ℕ) a + (![r, 256] : Fin 2 → ℕ) a ≤ (⟨2, ![R, C]⟩ : Shape).size a)
    (x : (⟨2, ![r, 256]⟩ : Shape).Idx) :
    (Rect.unit (s := ⟨2, ![R, C]⟩) ![0, o] ![r, 256] inb).emb x
      = ix2 ⟨(x 0).val, lt_of_lt_of_le (x 0).isLt (by have := inb 0; simpa using this)⟩
          ⟨o + (x 1).val, lt_of_lt_of_le (Nat.add_lt_add_left (x 1).isLt o) (inb 1)⟩ := by
  funext a
  refine Fin.ext ((Rect.idx_unit_val (s := ⟨2, ![R, C]⟩) ![0, o] ![r, 256] inb x a).trans ?_)
  fin_cases a
  · exact Nat.zero_add _
  · rfl

variable (w : W) (hr : Fin 2 → Fin 5632 → EReal) (ur : Fin 512 → Fin 5632 → EReal)

/-- The gated row at any row of the block. -/
def rowAct (r : Fin 512) (k : Fin 2816) : EReal := act w (rowAt hr ur r.val) (rowAt hr ur (r.val + 1)) (ur r) k

variable {x8 x9 x10 N H w hr ur}

theorem act_inb {o : ℕ} (h : o + 256 ≤ 2816) : ∀ a, (![0, o] : Fin 2 → ℕ) a + S512x256.size a ≤ S512x2816.size a := by
  intro a; fin_cases a; exacts [le_refl 512, h]
theorem last_inb {o : ℕ} (h : o + 256 ≤ 5632) : ∀ a, (![0, 0, o] : Fin 3 → ℕ) a + S1x2x256.size a ≤ S1x2x5632.size a := by
  intro a; fin_cases a; exacts [le_refl 1, le_refl 2, h]
theorem carry_inb {o : ℕ} (h : o + 256 ≤ 5632) : ∀ a, (![0, o] : Fin 2 → ℕ) a + S2x256.size a ≤ S8x5632.size a := by
  intro a; fin_cases a; exacts [(by decide : (0 + 2 : ℕ) ≤ 8), h]

theorem actP_of (hA : ∀ (r : Fin 512) (o : ℕ) (h : o + 256 ≤ 2816) (j : Fin 256),
      (actT x8 x9 x10 N H o (2816 + o) (by omega) (by omega) (ix2 r j) : EReal) = rowAct w hr ur r ⟨o + j.val, by omega⟩)
    (o : ℕ) (h : o + 256 ≤ 2816) (x : (actP x8 x9 x10 N H o h).1.shape.Idx) :
    (actP x8 x9 x10 N H o h).2 x = (fun y : S512x2816.Idx => (rowAct w hr ur (y 0) (y 1) : EReal)) ((actP x8 x9 x10 N H o h).1.emb x) := by
  have e := hA (x 0) o h (x 1)
  refine (congrArg (actT x8 x9 x10 N H o (2816 + o) (by omega) (by omega)) (eq_ix2 (n0 := 512) (n1 := 256) x)).trans (e.trans ?_)
  have e' := emb_cols (R := 512) (C := 2816) (r := 512) (act_inb h) x
  exact (congrArg (fun y : S512x2816.Idx => (rowAct w hr ur (y 0) (y 1) : EReal)) e').symm

theorem mem_actP (o : ℕ) (h : o + 256 ≤ 2816) (y : S512x2816.Idx) (h1 : o ≤ (y 1).val) (h2 : (y 1).val < o + 256) :
    y ∈ (actP x8 x9 x10 N H o h).1.set := by
  refine (Rect.mem_set_unit (s := S512x2816) (off := ![0, o]) (size := S512x256.size) (inb := act_inb h)).2 fun a => ?_
  fin_cases a
  · exact ⟨Nat.zero_le _, lt_of_lt_of_eq (y 0).isLt (Nat.zero_add _).symm⟩
  · exact ⟨h1, h2⟩

theorem actsLow_mem (i : Fin 5) : actP x8 x9 x10 N H (256 * i.val) (by omega) ∈ actsLow x8 x9 x10 N H := by
  unfold actsLow
  fin_cases i <;> simp

theorem lowT_at (hA : ∀ (r : Fin 512) (o : ℕ) (h : o + 256 ≤ 2816) (j : Fin 256),
      (actT x8 x9 x10 N H o (2816 + o) (by omega) (by omega) (ix2 r j) : EReal) = rowAct w hr ur r ⟨o + j.val, by omega⟩)
    (r : Fin 512) (k : Fin 1280) : (lowT x8 x9 x10 N H (ix2 r k) : EReal) = rowAct w hr ur r ⟨k.val, by omega⟩ := by
  have e : (Rect.unit (s := S512x2816) ![0, 0] S512x1280.size inb_S512x2816_S512x1280_0_0).toLoadRect.idx (ix2 r k) = ix2 r ⟨k.val, by omega⟩ := by
    funext a
    refine Fin.ext ((Rect.idx_unit_val (s := S512x2816) ![0, 0] S512x1280.size inb_S512x2816_S512x1280_0_0 (ix2 r k) a).trans ?_)
    fin_cases a <;> exact Nat.zero_add _
  unfold lowT
  rw [e]
  have p : View.PiecesOf (Val := Elt Ideal) (e := .bf16) (fun y : S512x2816.Idx => (rowAct w hr ur (y 0) (y 1) : EReal)) (actsLow x8 x9 x10 N H) := by
    unfold actsLow
    exact ⟨actP_of hA _ _, actP_of hA _ _, actP_of hA _ _, actP_of hA _ _, actP_of hA _ _, trivial⟩
  have f := View.canon_append_of_piecesOf _ [] _ p (ix2 r ⟨k.val, by omega⟩)
    ⟨_, actsLow_mem ⟨k.val / 256, by omega⟩, mem_actP _ _ _ (Nat.mul_div_le _ _) (by show k.val < _; dsimp only; omega)⟩
  rw [List.append_nil] at f
  exact f

theorem highT_at (hA : ∀ (r : Fin 512) (o : ℕ) (h : o + 256 ≤ 2816) (j : Fin 256),
      (actT x8 x9 x10 N H o (2816 + o) (by omega) (by omega) (ix2 r j) : EReal) = rowAct w hr ur r ⟨o + j.val, by omega⟩)
    (r : Fin 512) (k : Fin 1536) : (highT x8 x9 x10 N H (ix2 r k) : EReal) = rowAct w hr ur r ⟨1280 + k.val, by omega⟩ := by
  have e : (Rect.unit (s := S512x2816) ![0, 1280] S512x1536.size inb_S512x2816_S512x1536_0_1280).toLoadRect.idx (ix2 r k)
      = ix2 r ⟨1280 + k.val, by omega⟩ := by
    funext a
    refine Fin.ext ((Rect.idx_unit_val (s := S512x2816) ![0, 1280] S512x1536.size inb_S512x2816_S512x1536_0_1280 (ix2 r k) a).trans ?_)
    fin_cases a
    · exact Nat.zero_add _
    · rfl
  unfold highT
  rw [e]
  have p : View.PiecesOf (Val := Elt Ideal) (e := .bf16) (fun y : S512x2816.Idx => (rowAct w hr ur (y 0) (y 1) : EReal)) (actsHigh x8 x9 x10 N H) := by
    unfold actsHigh actsLow
    exact ⟨actP_of hA _ _, actP_of hA _ _, actP_of hA _ _, actP_of hA _ _, actP_of hA _ _, actP_of hA _ _, actP_of hA _ _, actP_of hA _ _,
      actP_of hA _ _, actP_of hA _ _, actP_of hA _ _, trivial⟩
  have f := View.canon_append_of_piecesOf _ [] _ p (ix2 r ⟨1280 + k.val, by omega⟩)
    (View.cover_of_tiledL (actsHigh x8 x9 x10 N H) S512x256.size (by rfl) _)
  rw [List.append_nil] at f
  exact f

theorem lastP_of (hu : ∀ (o : ℕ) (h : o + 256 ≤ 5632) (q : Fin 2) (j : Fin 256), (lastT' x8 N o h (ix3 0 q j) : EReal) = ur ⟨510 + q.val, by omega⟩ ⟨o + j.val, by omega⟩)
    (o : ℕ) (h : o + 256 ≤ 5632) (x : (lastP x8 N o h).1.shape.Idx) :
    (lastP x8 N o h).2 x = (fun y : S1x2x5632.Idx => (ur ⟨510 + (y 1).val, Nat.add_lt_add_left (y 1).isLt 510⟩ (y 2) : EReal)) ((lastP x8 N o h).1.emb x) := by
  have e := hu o h (x 1) (x 2)
  have x0 : x = ix3 0 (x 1) (x 2) := (eq_ix3 (n0 := 1) (n1 := 2) (n2 := 256) x).trans (congrArg (fun z => ix3 z (x 1) (x 2)) (Subsingleton.elim _ _))
  refine (congrArg (lastT' x8 N o h) x0).trans (e.trans ?_)
  have e' : (lastP x8 N o h).1.emb x = ix3 0 (x 1) ⟨o + (x 2).val, lt_of_lt_of_le (Nat.add_lt_add_left (x 2).isLt o) h⟩ := by
    funext a
    refine Fin.ext ((Rect.idx_unit_val (s := S1x2x5632) ![0, 0, o] S1x2x256.size (last_inb h) x a).trans ?_)
    fin_cases a
    · exact (Nat.zero_add _).trans (Nat.lt_one_iff.mp (x 0).isLt)
    · exact Nat.zero_add _
    · rfl
  exact (congrArg (fun y : S1x2x5632.Idx => (ur ⟨510 + (y 1).val, Nat.add_lt_add_left (y 1).isLt 510⟩ (y 2) : EReal)) e').symm

theorem lasts_at (hu : ∀ (o : ℕ) (h : o + 256 ≤ 5632) (q : Fin 2) (j : Fin 256), (lastT' x8 N o h (ix3 0 q j) : EReal) = ur ⟨510 + q.val, by omega⟩ ⟨o + j.val, by omega⟩)
    (y : S1x2x5632.Idx) : (View.canon (lasts x8 N) y : EReal) = ur ⟨510 + (y 1).val, Nat.add_lt_add_left (y 1).isLt 510⟩ (y 2) := by
  have p : View.PiecesOf (Val := Elt Ideal) (e := .f32) (fun y : S1x2x5632.Idx => (ur ⟨510 + (y 1).val, Nat.add_lt_add_left (y 1).isLt 510⟩ (y 2) : EReal))
      (lasts x8 N) := by
    unfold lasts
    exact ⟨lastP_of hu _ _, lastP_of hu _ _, lastP_of hu _ _, lastP_of hu _ _, lastP_of hu _ _, lastP_of hu _ _, lastP_of hu _ _, lastP_of hu _ _, lastP_of hu _ _, lastP_of hu _ _, lastP_of hu _ _, lastP_of hu _ _, lastP_of hu _ _, lastP_of hu _ _, lastP_of hu _ _, lastP_of hu _ _, lastP_of hu _ _, lastP_of hu _ _, lastP_of hu _ _, lastP_of hu _ _, lastP_of hu _ _, lastP_of hu _ _, trivial⟩
  have f := View.canon_append_of_piecesOf _ [] _ p y (View.cover_of_tiledL (lasts x8 N) S1x2x256.size (by rfl) _)
  rw [List.append_nil] at f
  exact f

theorem carryP_of (hu : ∀ (o : ℕ) (h : o + 256 ≤ 5632) (q : Fin 2) (j : Fin 256), (lastT x8 N o h (ix2 q j) : EReal) = ur ⟨510 + q.val, by omega⟩ ⟨o + j.val, by omega⟩)
    (o : ℕ) (h : o + 256 ≤ 5632) (x : (carryP x8 N o h).1.shape.Idx) :
    (carryP x8 N o h).2 x = (fun y : S8x5632.Idx => if hq : (y 0).val < 2 then (ur ⟨510 + (y 0).val, by omega⟩ (y 1) : EReal) else 0) ((carryP x8 N o h).1.emb x) := by
  have e := hu o h (x 0) (x 1)
  refine (congrArg (lastT x8 N o h) (eq_ix2 (n0 := 2) (n1 := 256) x)).trans (e.trans ?_)
  have e' := emb_cols (R := 8) (C := 5632) (r := 2) (carry_inb h) x
  refine Eq.trans ?_ (congrArg (fun y : S8x5632.Idx => if hq : (y 0).val < 2 then (ur ⟨510 + (y 0).val, by omega⟩ (y 1) : EReal) else 0) e').symm
  have h2 : (x 0).val < 2 := (x 0).isLt
  show _ = if hq : (x 0).val < 2 then (ur ⟨510 + (x 0).val, by omega⟩ ⟨o + (x 1).val, lt_of_lt_of_le (Nat.add_lt_add_left (x 1).isLt o) h⟩ : EReal) else 0
  rw [dif_pos h2]

theorem carries_mem (i : Fin 22) : carryP x8 N (256 * i.val) (by omega) ∈ carries x8 N := by
  unfold carries
  fin_cases i <;> simp

theorem carries_cover (q : Fin 2) (j : Fin 5632) : ∃ p ∈ carries x8 N, (ix2 ⟨q.val, by omega⟩ j : S8x5632.Idx) ∈ p.1.set := by
  have h : 256 * (j.val / 256) + 256 ≤ 5632 := by omega
  refine ⟨_, carries_mem ⟨j.val / 256, by omega⟩, (Rect.mem_set_unit (s := S8x5632) (off := ![0, 256 * (j.val / 256)]) (size := S2x256.size) (inb := carry_inb h)).2 fun a => ?_⟩
  fin_cases a
  · exact ⟨Nat.zero_le _, by show q.val < 0 + 2; omega⟩
  · exact ⟨Nat.mul_div_le _ _, by show j.val < 256 * (j.val / 256) + 256; omega⟩

theorem carries_at (hu : ∀ (o : ℕ) (h : o + 256 ≤ 5632) (q : Fin 2) (j : Fin 256), (lastT x8 N o h (ix2 q j) : EReal) = ur ⟨510 + q.val, by omega⟩ ⟨o + j.val, by omega⟩)
    (L : List (View.Piece (Elt Ideal) S8x5632 .f32)) (q : Fin 2) (j : Fin 5632) :
    (View.canon (carries x8 N ++ L) (ix2 ⟨q.val, by omega⟩ j) : EReal) = ur ⟨510 + q.val, by omega⟩ j := by
  have p : View.PiecesOf (Val := Elt Ideal) (e := .f32)
      (fun y : S8x5632.Idx => if hq : (y 0).val < 2 then (ur ⟨510 + (y 0).val, by omega⟩ (y 1) : EReal) else 0) (carries x8 N) := by
    unfold carries
    exact ⟨carryP_of hu _ _, carryP_of hu _ _, carryP_of hu _ _, carryP_of hu _ _, carryP_of hu _ _, carryP_of hu _ _, carryP_of hu _ _, carryP_of hu _ _, carryP_of hu _ _, carryP_of hu _ _, carryP_of hu _ _, carryP_of hu _ _, carryP_of hu _ _, carryP_of hu _ _, carryP_of hu _ _, carryP_of hu _ _, carryP_of hu _ _, carryP_of hu _ _, carryP_of hu _ _, carryP_of hu _ _, carryP_of hu _ _, carryP_of hu _ _, trivial⟩
  exact (View.canon_append_of_piecesOf _ L _ p _ (carries_cover q j)).trans (dif_pos q.isLt)

/-- A row written. -/
theorem rowsT_at (r : Fin 512) (x : Fin 1024 → EReal) (hx : ∀ k, (resT x0 x1 x2 x3 x4 x5 x6 (ix2 r k) : EReal) = x k)
    (h11 : ∀ k l, (x11 (ix2 k l) : EReal) = w.wd k l)
    (hA : ∀ (r : Fin 512) (o : ℕ) (h : o + 256 ≤ 2816) (j : Fin 256),
      (actT x8 x9 x10 (nrmT x0 x1 x2 x3 x4 x5 x6 x7) H o (2816 + o) (by omega) (by omega) (ix2 r j) : EReal) = rowAct w hr ur r ⟨o + j.val, by omega⟩)
    (j : Fin 1024) :
    (rowsT x0 x1 x2 x3 x4 x5 x6 x7 x8 x9 x10 x11 H (ix2 r j) : EReal) = out w x (rowAt hr ur r.val) (rowAt hr ur (r.val + 1)) (ur r) j := by
  have el := lowT_at hA r
  have eh := highT_at hA r
  have eo : out w x (rowAt hr ur r.val) (rowAt hr ur (r.val + 1)) (ur r) j
      = x j + (∑ k : Fin 1280, rowAct w hr ur r ⟨k.val, by omega⟩ * w.wd ⟨k.val, by omega⟩ j)
        + ∑ k : Fin 1536, rowAct w hr ur r ⟨1280 + k.val, by omega⟩ * w.wd ⟨1280 + k.val, by omega⟩ j := by
    unfold out
    rw [sum_cut, add_assoc]
    rfl
  rw [eo]
  simp only [← el, ← eh, ← h11, ← hx]
  unfold rowsT
  generalize lowT x8 x9 x10 (nrmT x0 x1 x2 x3 x4 x5 x6 x7) H = A
  generalize highT x8 x9 x10 (nrmT x0 x1 x2 x3 x4 x5 x6 x7) H = B
  generalize resT x0 x1 x2 x3 x4 x5 x6 = R
  pointwise [k0_pay1, k0_pay80]
  blk_ext

theorem histA_at (x12 : Vec Ideal S1x2x5632 .f32) (o : ℕ) (h : o + 256 ≤ 5632) (q : Fin 2) (j : Fin 256) :
    (histA x12 o h (ix2 q j) : EReal) = x12 (ix3 0 q ⟨o + j.val, by omega⟩) := by
  have e : ∀ l : Fin 5632, (k0_pay2 (F := Ideal) x12 (ix2 q l) : EReal) = x12 (ix3 0 q l) := fun l => by pointwise [k0_pay2]
  rw [← e]
  unfold histA
  exact View.ld_unit_apply_of _ _ _ _ _ _ fun a => by fin_cases a; exacts [(Nat.zero_add _).symm, rfl]

theorem histB_at (x13 : Vec Ideal S8x5632 .f32) (o : ℕ) (h : o + 256 ≤ 5632) (q : Fin 2) (j : Fin 256) :
    (histB x13 o h (ix2 q j) : EReal) = x13 (ix2 ⟨q.val, by omega⟩ ⟨o + j.val, by omega⟩) := by
  unfold histB
  exact View.ld_unit_apply_of _ _ _ _ _ _ fun a => by fin_cases a; exacts [(Nat.zero_add _).symm, rfl]

end

end Cert.MergeIdeal.Body

end
-- ==== Proof.Merge.Entry.lean ====
/- The kernel's operands at the region's entry, read at an index, in terms of the arguments. -/
module

public import proofs.«01_k».proof.Proof.Gen.MergeIdeal.Frame
public import proofs.«01_k».proof.Proof.Merge.Model
public import Idealize.ShloMosaic.Lib.Claim

@[expose] public section

set_option maxRecDepth 16384

noncomputable section

namespace Cert.MergeIdeal.Body

open Idealize.ShloMosaic Idealize.ShloMosaic.TcCoe Idealize.SL.Sem Cert.MergeIdeal Cert.MergeIdeal.Gen Cert.MergeModel

variable (m : (ℓ : Loc nD τ sig) → Buf (Elt Ideal) ℓ) (c : Dev nD)

/-- The arguments. -/
abbrev xArg : FVec Ideal S16x2048x1024 .f32 := m ((c : Thread nD τ).loc main_arg0)
abbrev oaArg : FVec Ideal S16x2048x8x64 .f32 := m ((c : Thread nD τ).loc main_arg1)
abbrev obArg : FVec Ideal S16x2048x4x128 .f32 := m ((c : Thread nD τ).loc main_arg2)
abbrev gaArg : FVec Ideal S16x2048x1024 .f32 := m ((c : Thread nD τ).loc main_arg3)
abbrev gbArg : FVec Ideal S16x2048x1024 .f32 := m ((c : Thread nD τ).loc main_arg4)
abbrev waArg : FVec Ideal S512x1024 .f32 := m ((c : Thread nD τ).loc main_arg5)
abbrev wbArg : FVec Ideal S512x1024 .f32 := m ((c : Thread nD τ).loc main_arg6)
abbrev woArg : FVec Ideal S1024x1024 .f32 := m ((c : Thread nD τ).loc main_arg7)
abbrev gArg : FVec Ideal S1024 .f32 := m ((c : Thread nD τ).loc main_arg8)
abbrev wuArg : FVec Ideal S1024x5632 .f32 := m ((c : Thread nD τ).loc main_arg9)
abbrev cwArg : FVec Ideal S3x5632 .f32 := m ((c : Thread nD τ).loc main_arg10)
abbrev cbArg : FVec Ideal S5632 .f32 := m ((c : Thread nD τ).loc main_arg11)
abbrev wdArg : FVec Ideal S2816x1024 .f32 := m ((c : Thread nD τ).loc main_arg12)

theorem x_at (r : Fin 32768) (k : Fin 1024) : (V m c main_v23 (ix2 r k) : EReal) = xArg m c (ix3 ⟨r.val / 2048, by omega⟩ ⟨r.val % 2048, by omega⟩ k) := by
  entry_read
  pointwise

theorem oa_at (r : Fin 32768) (l : Fin 512) : (V m c main_v25 (ix2 r l) : EReal) =
    oaArg m c (ix4 ⟨r.val / 2048, by omega⟩ ⟨r.val % 2048, by omega⟩ ⟨l.val / 64, by omega⟩ ⟨l.val % 64, by omega⟩) := by
  entry_read
  pointwise

theorem ob_at (r : Fin 32768) (l : Fin 512) : (V m c main_v27 (ix2 r l) : EReal) =
    obArg m c (ix4 ⟨r.val / 2048, by omega⟩ ⟨r.val % 2048, by omega⟩ ⟨l.val / 128, by omega⟩ ⟨l.val % 128, by omega⟩) := by
  entry_read
  pointwise

theorem sig_at (r : Fin 32768) (k : Fin 2048) : (V m c main_v21 (ix2 r k) : EReal) =
    if hk : k.val < 1024 then sg (gaArg m c (ix3 ⟨r.val / 2048, by omega⟩ ⟨r.val % 2048, by omega⟩ ⟨k.val, hk⟩))
    else sg (gbArg m c (ix3 ⟨r.val / 2048, by omega⟩ ⟨r.val % 2048, by omega⟩ ⟨k.val - 1024, by omega⟩)) := by
  entry_read
  pointwise
  split <;> rfl

theorem wa_at (l : Fin 512) (k : Fin 1024) : (V m c main_v0 (ix2 l k) : EReal) = waArg m c (ix2 l k) := by
  entry_read
  rfl

theorem wb_at (l : Fin 512) (k : Fin 1024) : (V m c main_v1 (ix2 l k) : EReal) = wbArg m c (ix2 l k) := by
  entry_read
  rfl

theorem wo_at (l : Fin 1024) (k : Fin 1024) : (V m c main_v2 (ix2 l k) : EReal) = woArg m c (ix2 l k) := by
  entry_read
  rfl

theorem g_at (a : Fin 1) (k : Fin 1024) : (V m c main_v3 (ix2 a k) : EReal) = gArg m c (ix1 k) := by
  entry_read
  pointwise

theorem wu_at (l : Fin 1024) (k : Fin 5632) : (V m c main_v4 (ix2 l k) : EReal) = wuArg m c (ix2 l k) := by
  entry_read
  rfl

theorem cb_at (a : Fin 1) (k : Fin 5632) : (V m c main_v5 (ix2 a k) : EReal) = cbArg m c (ix1 k) := by
  entry_read
  pointwise

theorem wd_at (l : Fin 2816) (k : Fin 1024) : (V m c main_v6 (ix2 l k) : EReal) = wdArg m c (ix2 l k) := by
  entry_read
  rfl

theorem z_at (b : Fin 16) (r : Fin 2) (j : Fin 5632) : @Eq EReal (V m c main_v22 (ix3 b r j)) 0 := by
  entry_read
  pointwise

end Cert.MergeIdeal.Body

end
-- ==== Proof.Merge.Rows.lean ====
/- The rows of the merged branches and of the feed-forward network, by batch entry and token, in terms of the arguments. -/
module

public import proofs.«01_k».proof.Proof.Merge.Model
public import Idealize.ShloMosaic.Lib.Claim

@[expose] public section

noncomputable section

namespace Cert.MergeModel

open Idealize.ShloMosaic

/-- The arguments. -/
structure Args where
  x : (⟨3, ![16, 2048, 1024]⟩ : Shape).Idx → EReal
  oa : (⟨4, ![16, 2048, 8, 64]⟩ : Shape).Idx → EReal
  ob : (⟨4, ![16, 2048, 4, 128]⟩ : Shape).Idx → EReal
  ga : (⟨3, ![16, 2048, 1024]⟩ : Shape).Idx → EReal
  gb : (⟨3, ![16, 2048, 1024]⟩ : Shape).Idx → EReal
  w : W

variable (a : Args) (b : Fin 16)

/-- The first branch's row. -/
def rowA (s : Fin 2048) (l : Fin 512) : EReal := a.oa (ix4 b s ⟨l.val / 64, by omega⟩ ⟨l.val % 64, by omega⟩)
/-- The second branch's row. -/
def rowB (s : Fin 2048) (l : Fin 512) : EReal := a.ob (ix4 b s ⟨l.val / 128, by omega⟩ ⟨l.val % 128, by omega⟩)
def gateA (s : Fin 2048) (k : Fin 1024) : EReal := sg (a.ga (ix3 b s k))
def gateB (s : Fin 2048) (k : Fin 1024) : EReal := sg (a.gb (ix3 b s k))

/-- The residual row of a token. -/
def resRow (s : Fin 2048) : Fin 1024 → EReal :=
  res a.w (fun k => a.x (ix3 b s k)) (rowA a b s) (rowB a b s) (gateA a b s) (gateB a b s)

/-- The token's row before the convolution. -/
def upRow (s : Fin 2048) : Fin 5632 → EReal := up a.w (resRow a b s)

/-- The rows before the convolution, two empty rows first. -/
def padded (n : ℕ) : Fin 5632 → EReal := if h : 2 ≤ n ∧ n < 2050 then upRow a b ⟨n - 2, by omega⟩ else fun _ => 0

/-- The result row of a token. -/
def outRow (s : Fin 2048) : Fin 1024 → EReal := out a.w (resRow a b s) (padded a b s.val) (padded a b (s.val + 1)) (upRow a b s)

end Cert.MergeModel

end
-- ==== Proof.Merge.Point.lean ====
/- What a point of the grid computes, in terms of the arguments' rows. -/
module

public import proofs.«01_k».proof.Proof.Merge.Values
public import proofs.«01_k».proof.Proof.Merge.Entry
public import proofs.«01_k».proof.Proof.Merge.Rows

@[expose] public section

set_option maxRecDepth 16384

noncomputable section

namespace Cert.MergeIdeal.Body

open Idealize.ShloMosaic Idealize.ShloMosaic.TcCoe Idealize.SL.Sem Cert.MergeIdeal Cert.MergeIdeal.Gen Cert.MergeModel

variable (m : (ℓ : Loc nD τ sig) → Buf (Elt Ideal) ℓ) (c : Dev nD)

/-- The windows' block indices. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![t.val / 4, 0, 0]
    ∧ win0_13.index t = ![t.val, 0] ∧ win0_14.index t = ![t.val / 4, 0, 0] :=
  (by decide +kernel : ∀ t : Fin grid0.N, _)

theorem lt64 (t : Fin cfg0.N) : t.val < 64 := t.isLt
theorem ltRow (t : Fin cfg0.N) (r : Fin 512) : 512 * t.val + r.val < 32768 := by have := lt64 t; omega

/-- The batch entry of a point, and the token of a row of its block. -/
def entry (t : Fin cfg0.N) : Fin 16 := ⟨t.val / 4, by have := lt64 t; omega⟩
def token (t : Fin cfg0.N) (r : Fin 512) : Fin 2048 := ⟨512 * (t.val % 4) + r.val, by omega⟩

theorem entry_eq (t : Fin cfg0.N) (r : Fin 512) (h) : (⟨(512 * t.val + r.val) / 2048, h⟩ : Fin 16) = entry t := Fin.ext (by simp only [entry]; omega)
theorem token_eq (t : Fin cfg0.N) (r : Fin 512) (h) : (⟨(512 * t.val + r.val) % 2048, h⟩ : Fin 2048) = token t r := Fin.ext (by simp only [token]; omega)

/-- The arguments, as the model takes them. -/
def args : Args where
  x := xArg m c
  oa := oaArg m c
  ob := obArg m c
  ga := gaArg m c
  gb := gbArg m c
  w := { wa := fun l k => waArg m c (ix2 l k), wb := fun l k => wbArg m c (ix2 l k), wo := fun l k => woArg m c (ix2 l k), g := fun k => gArg m c (ix1 k),
         wu := fun l k => wuArg m c (ix2 l k), cw := fun k l => cwArg m c (ix2 k l), cb := fun l => cbArg m c (ix1 l), wd := fun l k => wdArg m c (ix2 l k) }

theorem i0 (t : Fin cfg0.N) (r : Fin 512) (k : Fin 1024) :
    @Eq EReal ((iblk m c 0 t : Vec Ideal S512x1024 .f32) (ix2 r k)) ((args m c).x (ix3 (entry t) (token t r) k)) := by
  have e : (iblk m c 0 t : Vec Ideal S512x1024 .f32) (ix2 r k) = V m c main_v23 (ix2 ⟨512 * t.val + r.val, ltRow t r⟩ k) := by blk_ext [iblk, idx t]
  rw [e, x_at, entry_eq, token_eq]
  rfl

theorem i1 (t : Fin cfg0.N) (r l : Fin 512) :
    @Eq EReal ((iblk m c 1 t : Vec Ideal S512x512 .bf16) (ix2 r l)) (rowA (args m c) (entry t) (token t r) l) := by
  have e : (iblk m c 1 t : Vec Ideal S512x512 .bf16) (ix2 r l) = V m c main_v25 (ix2 ⟨512 * t.val + r.val, ltRow t r⟩ l) := by blk_ext [iblk, idx t]
  rw [e, oa_at, entry_eq, token_eq]
  rfl

theorem i2 (t : Fin cfg0.N) (r l : Fin 512) :
    @Eq EReal ((iblk m c 2 t : Vec Ideal S512x512 .bf16) (ix2 r l)) (rowB (args m c) (entry t) (token t r) l) := by
  have e : (iblk m c 2 t : Vec Ideal S512x512 .bf16) (ix2 r l) = V m c main_v27 (ix2 ⟨512 * t.val + r.val, ltRow t r⟩ l) := by blk_ext [iblk, idx t]
  rw [e, ob_at, entry_eq, token_eq]
  rfl

theorem i3 (t : Fin cfg0.N) (r : Fin 512) (k : Fin 2048) :
    (iblk m c 3 t : Vec Ideal S512x2048 .bf16) (ix2 r k) = V m c main_v21 (ix2 ⟨512 * t.val + r.val, ltRow t r⟩ k) := by blk_ext [iblk, idx t]

theorem i3a (t : Fin cfg0.N) (r : Fin 512) (k : Fin 1024) :
    @Eq EReal ((iblk m c 3 t : Vec Ideal S512x2048 .bf16) (ix2 r ⟨k.val, by omega⟩)) (gateA (args m c) (entry t) (token t r) k) := by
  rw [i3, sig_at, dif_pos k.isLt, entry_eq, token_eq]
  rfl

theorem i3b (t : Fin cfg0.N) (r : Fin 512) (k : Fin 1024) :
    @Eq EReal ((iblk m c 3 t : Vec Ideal S512x2048 .bf16) (ix2 r ⟨1024 + k.val, by omega⟩)) (gateB (args m c) (entry t) (token t r) k) := by
  have h : ¬ 1024 + k.val < 1024 := by omega
  have e : ∀ h', (⟨1024 + k.val - 1024, h'⟩ : Fin 1024) = k := fun h' => Fin.ext (by simp)
  rw [i3, sig_at, dif_neg h, entry_eq, token_eq, e]
  rfl

theorem i4 (t : Fin cfg0.N) (l : Fin 512) (k : Fin 1024) : @Eq EReal ((iblk m c 4 t : Vec Ideal S512x1024 .bf16) (ix2 l k)) ((args m c).w.wa l k) := by
  have e : (iblk m c 4 t : Vec Ideal S512x1024 .bf16) (ix2 l k) = V m c main_v0 (ix2 l k) := by blk_ext [iblk, idx t]
  rw [e, wa_at]
  rfl
theorem i5 (t : Fin cfg0.N) (l : Fin 512) (k : Fin 1024) : @Eq EReal ((iblk m c 5 t : Vec Ideal S512x1024 .bf16) (ix2 l k)) ((args m c).w.wb l k) := by
  have e : (iblk m c 5 t : Vec Ideal S512x1024 .bf16) (ix2 l k) = V m c main_v1 (ix2 l k) := by blk_ext [iblk, idx t]
  rw [e, wb_at]
  rfl
theorem i6 (t : Fin cfg0.N) (l k : Fin 1024) : @Eq EReal ((iblk m c 6 t : Vec Ideal S1024x1024 .bf16) (ix2 l k)) ((args m c).w.wo l k) := by
  have e : (iblk m c 6 t : Vec Ideal S1024x1024 .bf16) (ix2 l k) = V m c main_v2 (ix2 l k) := by blk_ext [iblk, idx t]
  rw [e, wo_at]
  rfl
theorem i7 (t : Fin cfg0.N) (k : Fin 1024) : @Eq EReal ((iblk m c 7 t : Vec Ideal S1x1024 .f32) (ix2 0 k)) ((args m c).w.g k) := by
  have e : (iblk m c 7 t : Vec Ideal S1x1024 .f32) (ix2 0 k) = V m c main_v3 (ix2 0 k) := by blk_ext [iblk, idx t]
  rw [e, g_at]
  rfl
theorem i8 (t : Fin cfg0.N) (l : Fin 1024) (k : Fin 5632) : @Eq EReal ((iblk m c 8 t : Vec Ideal S1024x5632 .bf16) (ix2 l k)) ((args m c).w.wu l k) := by
  have e : (iblk m c 8 t : Vec Ideal S1024x5632 .bf16) (ix2 l k) = V m c main_v4 (ix2 l k) := by blk_ext [iblk, idx t]
  rw [e, wu_at]
  rfl
theorem i9 (t : Fin cfg0.N) (k : Fin 3) (l : Fin 5632) : @Eq EReal ((iblk m c 9 t : Vec Ideal S3x5632 .f32) (ix2 k l)) ((args m c).w.cw k l) := by
  have e : (iblk m c 9 t : Vec Ideal S3x5632 .f32) (ix2 k l) = V m c main_arg10 (ix2 k l) := by blk_ext [iblk, idx t]
  rw [e, V_main_arg10]
  rfl
theorem i10 (t : Fin cfg0.N) (l : Fin 5632) : @Eq EReal ((iblk m c 10 t : Vec Ideal S1x5632 .f32) (ix2 0 l)) ((args m c).w.cb l) := by
  have e : (iblk m c 10 t : Vec Ideal S1x5632 .f32) (ix2 0 l) = V m c main_v5 (ix2 0 l) := by blk_ext [iblk, idx t]
  rw [e, cb_at]
  rfl
theorem i11 (t : Fin cfg0.N) (l : Fin 2816) (k : Fin 1024) : @Eq EReal ((iblk m c 11 t : Vec Ideal S2816x1024 .bf16) (ix2 l k)) ((args m c).w.wd l k) := by
  have e : (iblk m c 11 t : Vec Ideal S2816x1024 .bf16) (ix2 l k) = V m c main_v6 (ix2 l k) := by blk_ext [iblk, idx t]
  rw [e, wd_at]
  rfl
theorem i12 (t : Fin cfg0.N) (q : Fin 2) (j : Fin 5632) : @Eq EReal ((iblk m c 12 t : Vec Ideal S1x2x5632 .f32) (ix3 0 q j)) 0 := by
  have e : (iblk m c 12 t : Vec Ideal S1x2x5632 .f32) (ix3 0 q j) = V m c main_v22 (ix3 (entry t) q j) := by blk_ext [iblk, idx t, entry]
  rw [e, z_at]

/-- The block's rows before the convolution, and the two before them. -/
def urT (t : Fin cfg0.N) (r : Fin 512) : Fin 5632 → EReal := upRow (args m c) (entry t) (token t r)
def hrT (t : Fin cfg0.N) (q : Fin 2) : Fin 5632 → EReal := padded (args m c) (entry t) (512 * (t.val % 4) + q.val)

theorem rowAt_eq (t : Fin cfg0.N) (n : ℕ) (h : n < 514) : rowAt (hrT m c t) (urT m c t) n = padded (args m c) (entry t) (512 * (t.val % 4) + n) := by
  unfold rowAt
  by_cases h2 : n < 2
  · rw [dif_pos h2]; rfl
  · rw [dif_neg h2, dif_pos (by omega)]
    unfold urT padded
    rw [dif_pos ⟨by omega, by omega⟩]
    congr 1
    exact Fin.ext (by simp only [token]; omega)

section
variable (t : Fin cfg0.N)

abbrev resB : FVec Ideal S512x1024 .f32 := resT (iblk m c 0 t) (iblk m c 1 t) (iblk m c 2 t) (iblk m c 3 t) (iblk m c 4 t) (iblk m c 5 t) (iblk m c 6 t)
abbrev nrmB : FVec Ideal S512x1024 .bf16 := nrmT (iblk m c 0 t) (iblk m c 1 t) (iblk m c 2 t) (iblk m c 3 t) (iblk m c 4 t) (iblk m c 5 t) (iblk m c 6 t) (iblk m c 7 t)

theorem resB_at (r : Fin 512) (k : Fin 1024) : @Eq EReal (resB m c t (ix2 r k)) (resRow (args m c) (entry t) (token t r) k) :=
  resT_at _ _ _ _ _ _ _ (args m c).w r (fun k => (args m c).x (ix3 (entry t) (token t r) k)) _ _ _ _ (fun k => i0 m c t r k) (fun l k => i6 m c t l k)
    (fun k => joinT_at _ _ _ _ _ (args m c).w r (rowA (args m c) (entry t) (token t r)) (rowB (args m c) (entry t) (token t r))
      (gateA (args m c) (entry t) (token t r)) (gateB (args m c) (entry t) (token t r))
      (fun l => i1 m c t r l) (fun l => i2 m c t r l) (fun k => i3a m c t r k) (fun k => i3b m c t r k) (fun l k => i4 m c t l k) (fun l k => i5 m c t l k) k) k

theorem upB_at (o : ℕ) (h : o + 256 ≤ 5632) (r : Fin 512) (j : Fin 256) :
    @Eq EReal (upT (iblk m c 8 t) (nrmB m c t) o h (ix2 r j)) (urT m c t r ⟨o + j.val, by omega⟩) :=
  upT_at _ _ (args m c).w r (resRow (args m c) (entry t) (token t r)) (fun l k => i8 m c t l k)
    (fun k => nrmT_at _ _ _ _ _ _ _ _ (args m c).w r (resRow (args m c) (entry t) (token t r)) (fun k => i7 m c t k) (fun k => resB_at m c t r k) k) o h j

/-- The rows a point stores, whatever its history is read from. -/
theorem rowsB_at (H : (o : ℕ) → o + 256 ≤ 5632 → FVec Ideal S2x256 .f32)
    (hH : ∀ o h q (j : Fin 256), @Eq EReal (H o h (ix2 q j)) (hrT m c t q ⟨o + j.val, by omega⟩)) (r : Fin 512) (j : Fin 1024) :
    @Eq EReal (rowsT (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) H (ix2 r j)) (outRow (args m c) (entry t) (token t r) j) := by
  refine (rowsT_at (w := (args m c).w) (hr := hrT m c t) (ur := urT m c t) _ _ _ _ _ _ _ _ _ r (resRow (args m c) (entry t) (token t r)) (fun k => resB_at m c t r k)
    (fun k l => i11 m c t k l) (fun r o h j => actT_at _ _ _ _ _ (args m c).w o (2816 + o) h rfl (by omega) _ _ _ r (fun q hq j =>
      convT_at _ _ _ _ _ (args m c).w (hrT m c t) (urT m c t) (fun k l => i9 m c t k l) (fun l => i10 m c t l) q hq (hH q hq) (fun q' j => upB_at m c t q hq q' j) r j) j) j).trans ?_
  rw [rowAt_eq m c t _ (by omega), rowAt_eq m c t _ (by omega)]
  rfl

theorem lastsB_at (q : Fin 2) (j : Fin 5632) :
    @Eq EReal (View.canon (lasts (iblk m c 8 t) (nrmB m c t)) (ix3 0 q j)) (urT m c t ⟨510 + q.val, by omega⟩ j) :=
  lasts_at (fun o h q j => lastT'_at _ _ (urT m c t) o h (fun q' j => upB_at m c t o h q' j) q j) (ix3 0 q j)

theorem carriesB_at (L : List (View.Piece (Elt Ideal) S8x5632 .f32)) (q : Fin 2) (j : Fin 5632) :
    @Eq EReal (View.canon (carries (iblk m c 8 t) (nrmB m c t) ++ L) (ix2 ⟨q.val, by omega⟩ j)) (urT m c t ⟨510 + q.val, by omega⟩ j) :=
  carries_at (fun o h q j => lastT_at _ _ (urT m c t) o h (fun q' j => upB_at m c t o h q' j) q j) L q j

/-- The history of a batch entry's first block is the entering state. -/
theorem histA_eq (h0 : t.val % 4 = 0) (o : ℕ) (h : o + 256 ≤ 5632) (q : Fin 2) (j : Fin 256) :
    @Eq EReal (histA (iblk m c 12 t) o h (ix2 q j)) (hrT m c t q ⟨o + j.val, by omega⟩) := by
  rw [histA_at, i12]
  unfold hrT padded
  rw [dif_neg (by omega)]

/-- Otherwise it is the carried rows. -/
def Carried (x13 : Vec Ideal S8x5632 .f32) : Prop :=
  t.val % 4 ≠ 0 → ∀ (q : Fin 2) (j : Fin 5632), @Eq EReal (x13 (ix2 ⟨q.val, by omega⟩ j)) (hrT m c t q j)

theorem histB_eq (h0 : t.val % 4 ≠ 0) {x13 : Vec Ideal S8x5632 .f32} (hx : Carried m c t x13) (o : ℕ) (h : o + 256 ≤ 5632) (q : Fin 2) (j : Fin 256) :
    @Eq EReal (histB x13 o h (ix2 q j)) (hrT m c t q ⟨o + j.val, by omega⟩) := by
  rw [histB_at]
  exact hx h0 q _

/-- A point's last rows are the next point's history. -/
theorem next_hist (t' : Fin cfg0.N) (ht : t'.val = t.val + 1) (h0 : t'.val % 4 ≠ 0) (q : Fin 2) :
    urT m c t ⟨510 + q.val, by omega⟩ = hrT m c t' q := by
  unfold urT hrT padded
  rw [dif_pos ⟨by omega, by omega⟩]
  have e1 : entry t = entry t' := Fin.ext (by simp only [entry]; omega)
  rw [e1]
  congr 1
  exact Fin.ext (by simp only [token]; omega)

end

end Cert.MergeIdeal.Body

end
-- ==== Proof.Merge.Leaves.lean ====
/- What a point leaves in the outputs' blocks and in the carried rows. -/
module

public import proofs.«01_k».proof.Proof.Merge.EqA
public import proofs.«01_k».proof.Proof.Merge.EqB
public import proofs.«01_k».proof.Proof.Merge.Step
public import proofs.«01_k».proof.Proof.Merge.Point

@[expose] public section

set_option maxRecDepth 16384

noncomputable section

namespace Cert.MergeIdeal.Body

open Idealize.ShloMosaic Idealize.ShloMosaic.TcCoe Idealize.SL.Sem Cert.MergeIdeal Cert.MergeIdeal.Gen Cert.MergeModel

variable (m : (ℓ : Loc nD τ sig) → Buf (Elt Ideal) ℓ) (c : Dev nD) (t : Fin cfg0.N)

/-- The rows point `t` stores, and the last two of them before the convolution. -/
def rowsOf : Vec Ideal S512x1024 .f32 := fun y => outRow (args m c) (entry t) (token t (y 0)) (y 1)
def lastsOf : Vec Ideal S1x2x5632 .f32 := fun y => urT m c t ⟨510 + (y 1).val, Nat.add_lt_add_left (y 1).isLt 510⟩ (y 2)

theorem start_iff : atStart (grid0.coords t) ↔ t.val % 4 = 0 := atStart_iff t

variable {x13 : Vec Ideal S8x5632 .f32}

theorem rows_ext {H : (o : ℕ) → o + 256 ≤ 5632 → FVec Ideal S2x256 .f32}
    (hH : ∀ o h q (j : Fin 256), @Eq EReal (H o h (ix2 q j)) (hrT m c t q ⟨o + j.val, by omega⟩)) :
    rowsT (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) H = rowsOf m c t := by
  funext y
  have e := rowsB_at m c t H hH (y 0) (y 1)
  rw [← eq_ix2 (n0 := 512) (n1 := 1024) y] at e
  exact e

theorem lasts_ext : View.canon (lasts (iblk m c 8 t) (nrmB m c t)) = lastsOf m c t := by
  funext y
  have e := lastsB_at m c t (y 1) (y 2)
  have y0 : y = ix3 (n0 := 1) 0 (y 1) (y 2) := (eq_ix3 (n0 := 1) (n1 := 2) (n2 := 5632) y).trans (congrArg (fun z => ix3 z (y 1) (y 2)) (Subsingleton.elim _ _))
  exact (congrArg _ y0).trans e

theorem canon_rows (v : Vec Ideal S512x1024 .f32) :
    View.canon [⟨Rect.unit (s := S512x1024) ![0, 0] S512x1024.size inb_S512x1024_S512x1024_0_0, v⟩] = v :=
  View.canon_unit_zero (funext fun i => by fin_cases i <;> rfl) _ _

theorem out13_eq (hx : Carried m c t x13) : out13 m c t x13 = rowsOf m c t := by
  by_cases h : atStart (grid0.coords t)
  · refine (dif_pos h : out13 m c t x13 = outA_13 m c t x13 h).trans ((View.read_writes_junk_eq_canon _ _).trans ?_)
    have e : (atA m c t x13 h).1 = [⟨Rect.unit (s := S512x1024) ![0, 0] S512x1024.size inb_S512x1024_S512x1024_0_0, rowsT (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
        (histA (iblk m c 12 t))⟩] := by apply runA_rows
    rw [e]
    exact (canon_rows _).trans (rows_ext m c t (histA_eq m c t ((start_iff t).mp h)))
  · refine (dif_neg h : out13 m c t x13 = outB_13 m c t x13 h).trans ((View.read_writes_junk_eq_canon _ _).trans ?_)
    have e : (atB m c t x13 h).1 = [⟨Rect.unit (s := S512x1024) ![0, 0] S512x1024.size inb_S512x1024_S512x1024_0_0, rowsT (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
        (histB x13)⟩] := by apply runB_rows
    rw [e]
    exact (canon_rows _).trans (rows_ext m c t (histB_eq m c t (fun h' => h ((start_iff t).mpr h')) hx))

theorem out14_eq : out14 m c t x13 = lastsOf m c t := by
  by_cases h : atStart (grid0.coords t)
  · refine (dif_pos h : out14 m c t x13 = outA_14 m c t x13 h).trans ((View.read_writes_junk_eq_canon _ _).trans ?_)
    have e : (atA m c t x13 h).2.1 = lasts (iblk m c 8 t) (nrmB m c t) := by apply runA_lasts
    rw [e]
    exact lasts_ext m c t
  · refine (dif_neg h : out14 m c t x13 = outB_14 m c t x13 h).trans ((View.read_writes_junk_eq_canon _ _).trans ?_)
    have e : (atB m c t x13 h).2.1 = lasts (iblk m c 8 t) (nrmB m c t) := by apply runB_lasts
    rw [e]
    exact lasts_ext m c t

theorem carry_at (q : Fin 2) (j : Fin 5632) :
    @Eq EReal (carry m c t x13 (ix2 ⟨q.val, by omega⟩ j)) (urT m c t ⟨510 + q.val, by omega⟩ j) := by
  obtain ⟨p, hp, hy⟩ := carries_cover (x8 := iblk m c 8 t) (N := nrmB m c t) q j
  by_cases h : atStart (grid0.coords t)
  · refine (congrFun (dif_pos h : carry m c t x13 = carryA m c t x13 h) _).trans ?_
    have e : (atA m c t x13 h).2.2.1 = carries (iblk m c 8 t) (nrmB m c t)
        ++ [⟨Rect.unit (s := S8x5632) ![0, 0] S2x5632.size inb_S8x5632_S2x5632_0_0, k0_pay2 (F := Ideal) (iblk m c 12 t)⟩] := by apply runA_carries
    unfold carryA
    rw [e]
    exact (View.read_writes_apply_eq_canon _ _ _ _ ⟨p, List.mem_append_left _ hp, hy⟩).trans (carriesB_at m c t _ q j)
  · refine (congrFun (dif_neg h : carry m c t x13 = carryB m c t x13 h) _).trans ?_
    have e : (atB m c t x13 h).2.2.1 = carries (iblk m c 8 t) (nrmB m c t) := by apply runB_carries
    unfold carryB
    rw [e, ← List.append_nil (carries _ _)]
    exact (View.read_writes_apply_eq_canon _ _ _ _ ⟨p, List.mem_append_left _ hp, hy⟩).trans (carriesB_at m c t _ q j)

/-- The next point finds the history it needs. -/
theorem carried_next (t' : Fin cfg0.N) (ht : t'.val = t.val + 1) : Carried m c t' (carry m c t x13) := fun h0 q j => by
  rw [carry_at, next_hist m c t t' ht h0]

end Cert.MergeIdeal.Body

end
-- ==== Proof.Merge.Exact.lean ====
/- The run with the two results named: every point finds in the carried rows the history it needs. -/
module

public import proofs.«01_k».proof.Proof.Merge.Leaves

@[expose] public section

set_option maxRecDepth 16384

noncomputable section

namespace Cert.MergeIdeal.Exact

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MergeIdeal.Gen Cert.MergeIdeal.Body

local notation "𝕄" => MT nD τ sig Unit (Elt Ideal) ℕ (UR sig nD τ) ℕ

variable (m : (ℓ : Loc nD τ sig) → Buf (Elt Ideal) ℓ) (ρ : Dev nD → PrngReg)

/-- Between points the carried rows are the history the point to come needs. -/
def inv (c : Dev nD) (k : Fin (cfg0.N + 1)) : sProp 𝕄 :=
  iprop(((∃ x13, ⌜∀ t : Fin cfg0.N, t.val = k.val → Carried m c t x13⌝ ∗ owns (c : Thread nD τ) scM0_0 fullShare x13)
      ∗ (∃ d, owns (c : Thread nD τ) scM0_1 fullShare d) ∗ (∃ d, owns (c : Thread nD τ) scM0_2 fullShare d))
    ∗ (∃ r, prngReg c r))

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => rowsOf m c t
    | ⟨14, _⟩ => lastsOf m c t
  Φ k := inv m c k
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]

theorem after0_13 (c : Dev nD) (t : Fin cfg0.N) : (dats m 0 c).after 13 t = rowsOf m c t := by dsimp only [dats]
theorem after0_14 (c : Dev nD) (t : Fin cfg0.N) : (dats m 0 c).after 14 t = lastsOf m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 1600000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  simp only [before0_0, before0_1, before0_2, before0_3, before0_4, before0_5, before0_6, before0_7, before0_8, before0_9, before0_10, before0_11, before0_12]
  rw [show (dats m 0 c).owesAt () t.succ = (dats m 0 c).owesAt () t.castSucc from rfl, after0_0, after0_1, after0_2, after0_3, after0_4, after0_5, after0_6, after0_7, after0_8, after0_9, after0_10, after0_11, after0_12, after0_13, after0_14]
  rw [show (dats m 0 c).Φ t.succ = inv m c t.succ from rfl, show (dats m 0 c).Φ t.castSucc = inv m c t.castSucc from rfl]
  unfold inv
  iintro ⟨⟨⟨⟨%x13, %hx, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (step m c t x13 _)
  rw [out13_eq m c t (hx t rfl), out14_eq m c t]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [HS0]; · iexact HS0
  isplitl [HS1]; · iexact HS1
  isplitl [HS2]; · iexact HS2
  iintro ⟨H0, H1, H2, H3, H4, H5, H6, H7, H8, H9, H10, H11, H12, H13, H14, HS0, HS1, HS2⟩
  isplitl [HS0 HS1 HS2 Hg]
  · isplitl [HS0 HS1 HS2]
    · isplitl [HS0]
      · iexists _; isplitr
        swap; · iexact HS0
        ipureintro; exact fun t' ht => carried_next m c t t' ht
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- Before the first point the carried rows may be anything, as they may after the last. -/
theorem inv_in (c : Dev nD) : Pipeline.ΦA spec0 c ⊢ (dats m 0 c).Φ 0 := by
  rw [show (dats m 0 c).Φ 0 = inv m c 0 from rfl, PhiA0_eq]
  unfold inv
  iintro ⟨⟨⟨%x13, HS0⟩, HS1, HS2⟩, Hg⟩
  isplitl [HS0 HS1 HS2]
  · isplitl [HS0]
    · iexists _; isplitr
      swap; · iexact HS0
      ipureintro; exact fun t ht h => absurd (show t.val % 4 = 0 by rw [ht]; rfl) h
    isplitl [HS1]; · iexact HS1
    iexact HS2
  iexact Hg

theorem inv_out (c : Dev nD) : (dats m 0 c).Φ (Fin.last cfg0.N) ⊢ Pipeline.ΦA spec0 c := by
  rw [show (dats m 0 c).Φ (Fin.last cfg0.N) = inv m c (Fin.last cfg0.N) from rfl, PhiA0_eq]
  unfold inv
  iintro ⟨⟨⟨%x13, %hx, HS0⟩, HS1, HS2⟩, Hg⟩
  isplitl [HS0 HS1 HS2]
  · isplitl [HS0]; · iexists _; iexact HS0
    isplitl [HS1]; · iexact HS1
    iexact HS2
  iexact Hg

set_option backward.isDefEq.respectTransparency.types false in
theorem run_main : θ_run defs (onTc (τ := τ) (main (F := Ideal))) (s₀ m ρ) (fun r =>
    Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := inv_in m) (hout := inv_out m) (hQ' := fun _ h => h)

/-- The two results hold what the points stored, and the arguments end unchanged. -/
theorem run_blocks : θ_run defs (onTc (τ := τ) (main (F := Ideal))) ⟨m, fun _ => 0, ρ⟩ (fun r => ∀ c : Dev nD,
      r.2.mem ((c.tc : Thread nD τ).loc main_v28_0) = (dats m 0 c).arrAt 13 cfg0.N
      ∧ r.2.mem ((c.tc : Thread nD τ).loc main_v28_1) = (dats m 0 c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h.1 c).1 13, (h.1 c).1 14,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      (Pipeline.FramePost.in_eq h.1 c 9 rfl).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c)⟩) (run_main m ρ)

end Cert.MergeIdeal.Exact

end
-- ==== Proof.Merge.RefRead.lean ====
/- The reference's results read at an index, in the model's rows. -/
module

public import proofs.«01_k».proof.Proof.Gen.MergeRefIdeal.Read
public import proofs.«01_k».proof.Proof.Merge.Rows
public import Idealize.ShloMosaic.Lib.Pipeline.ValueKit

@[expose] public section

set_option maxRecDepth 16384

noncomputable section

namespace Cert.MergeRefIdeal.Rows

open Idealize.ShloMosaic Idealize.ShloMosaic.TcCoe Idealize.SL.Sem Cert.MergeRefIdeal Cert.MergeRefIdeal.Read Cert.MergeModel

variable (x0 : FVec Ideal S16x2048x1024 .f32) (x1 : FVec Ideal S16x2048x8x64 .f32) (x2 : FVec Ideal S16x2048x4x128 .f32) (x3 x4 : FVec Ideal S16x2048x1024 .f32)
  (x5 x6 : FVec Ideal S512x1024 .f32) (x7 : FVec Ideal S1024x1024 .f32) (x8 : FVec Ideal S1024 .f32) (x9 : FVec Ideal S1024x5632 .f32)
  (x10 : FVec Ideal S3x5632 .f32) (x11 : FVec Ideal S5632 .f32) (x12 : FVec Ideal S2816x1024 .f32)

/-- The arguments, as the model takes them. -/
def model : Args where
  x := x0
  oa := x1
  ob := x2
  ga := x3
  gb := x4
  w := { wa := fun l k => x5 (ix2 l k), wb := fun l k => x6 (ix2 l k), wo := fun l k => x7 (ix2 l k), g := fun k => x8 (ix1 k),
         wu := fun l k => x9 (ix2 l k), cw := fun k l => x10 (ix2 k l), cb := fun l => x11 (ix1 l), wd := fun l k => x12 (ix2 l k) }

variable (b : Fin 16) (s : Fin 2048)

theorem v1_at (k : Fin 1024) : @Eq EReal (val_main_v1 (F := Ideal) x1 x5 (ix3 b s k)) (∑ l : Fin 512, rowA (model x0 x1 x2 x3 x4 x5 x6 x7 x8 x9 x10 x11 x12) b s l * (model x0 x1 x2 x3 x4 x5 x6 x7 x8 x9 x10 x11 x12).w.wa l k) := by
  pointwise [val_main_v1, val_main_v0]
  rfl

theorem v3_at (k : Fin 1024) : @Eq EReal (val_main_v3 (F := Ideal) x2 x6 (ix3 b s k)) (∑ l : Fin 512, rowB (model x0 x1 x2 x3 x4 x5 x6 x7 x8 x9 x10 x11 x12) b s l * (model x0 x1 x2 x3 x4 x5 x6 x7 x8 x9 x10 x11 x12).w.wb l k) := by
  pointwise [val_main_v3, val_main_v2]
  rfl

theorem v9_at (k : Fin 1024) : @Eq EReal (val_main_v9 (F := Ideal) x3 (ix3 b s k)) (gateA (model x0 x1 x2 x3 x4 x5 x6 x7 x8 x9 x10 x11 x12) b s k) := by
  pointwise [val_main_v9, val_main_v8, val_main_v7, val_main_v6, val_main_v5, val_main_v4, val_main_cst, val_main_cst_0]
  rfl

theorem v16_at (k : Fin 1024) : @Eq EReal (val_main_v16 (F := Ideal) x4 (ix3 b s k)) (gateB (model x0 x1 x2 x3 x4 x5 x6 x7 x8 x9 x10 x11 x12) b s k) := by
  pointwise [val_main_v16, val_main_v15, val_main_v14, val_main_v13, val_main_v12, val_main_v11, val_main_cst_1, val_main_cst_2]
  rfl

theorem v18_at (k : Fin 1024) : @Eq EReal (val_main_v18 (F := Ideal) x1 x2 x3 x4 x5 x6 (ix3 b s k))
    (join (model x0 x1 x2 x3 x4 x5 x6 x7 x8 x9 x10 x11 x12).w (rowA (model x0 x1 x2 x3 x4 x5 x6 x7 x8 x9 x10 x11 x12) b s) (rowB (model x0 x1 x2 x3 x4 x5 x6 x7 x8 x9 x10 x11 x12) b s) (gateA (model x0 x1 x2 x3 x4 x5 x6 x7 x8 x9 x10 x11 x12) b s) (gateB (model x0 x1 x2 x3 x4 x5 x6 x7 x8 x9 x10 x11 x12) b s) k) := by
  rw [val_main_v18_apply, val_main_v10_apply, val_main_v17_apply, v1_at x0 x1 x2 x3 x4 x5 x6 x7 x8 x9 x10 x11 x12, v3_at x0 x1 x2 x3 x4 x5 x6 x7 x8 x9 x10 x11 x12, v9_at x0 x1 x2 x3 x4 x5 x6 x7 x8 x9 x10 x11 x12, v16_at x0 x1 x2 x3 x4 x5 x6 x7 x8 x9 x10 x11 x12]
  rfl

theorem v20_at (k : Fin 1024) : @Eq EReal (val_main_v20 (F := Ideal) x0 x1 x2 x3 x4 x5 x6 x7 (ix3 b s k)) (resRow (model x0 x1 x2 x3 x4 x5 x6 x7 x8 x9 x10 x11 x12) b s k) := by
  have e : @Eq EReal (val_main_v19 (F := Ideal) x1 x2 x3 x4 x5 x6 x7 (ix3 b s k))
      (∑ l : Fin 1024, (val_main_v18 (F := Ideal) x1 x2 x3 x4 x5 x6 (ix3 b s l) : EReal) * x7 (ix2 l k)) := by pointwise [val_main_v19]
  rw [val_main_v20_apply, e]
  simp only [v18_at x0 x1 x2 x3 x4 x5 x6 x7 x8 x9 x10 x11 x12]
  rfl

theorem v25_at : @Eq EReal (val_main_v25 (F := Ideal) x0 x1 x2 x3 x4 x5 x6 x7 (ix3 b s 0))
    (Ideal.div (∑ l : Fin 1024, resRow (model x0 x1 x2 x3 x4 x5 x6 x7 x8 x9 x10 x11 x12) b s l * resRow (model x0 x1 x2 x3 x4 x5 x6 x7 x8 x9 x10 x11 x12) b s l) (Ideal.ofBits FTy.f32 0x44800000#32)) := by
  simp only [← v20_at x0 x1 x2 x3 x4 x5 x6 x7 x8 x9 x10 x11 x12]
  pointwise [val_main_v25, val_main_v24, val_main_v23, val_main_v22, val_main_v21, val_main_cst_3, val_main_cst_4]

theorem v33_at (k : Fin 1024) : @Eq EReal (val_main_v33 (F := Ideal) x0 x1 x2 x3 x4 x5 x6 x7 x8 (ix3 b s k)) (nrm (model x0 x1 x2 x3 x4 x5 x6 x7 x8 x9 x10 x11 x12).w (resRow (model x0 x1 x2 x3 x4 x5 x6 x7 x8 x9 x10 x11 x12) b s) k) := by
  unfold nrm
  rw [← v25_at x0 x1 x2 x3 x4 x5 x6 x7 x8 x9 x10 x11 x12, ← v20_at x0 x1 x2 x3 x4 x5 x6 x7 x8 x9 x10 x11 x12]
  pointwise [val_main_v33, val_main_v32, val_main_v31, val_main_v30, val_main_v29, val_main_v28, val_main_v27, val_main_v26, val_main_cst_5]
  rfl

theorem v34_at (j : Fin 5632) : @Eq EReal (val_main_v34 (F := Ideal) x0 x1 x2 x3 x4 x5 x6 x7 x8 x9 (ix3 b s j)) (upRow (model x0 x1 x2 x3 x4 x5 x6 x7 x8 x9 x10 x11 x12) b s j) := by
  unfold upRow up
  simp only [← v33_at x0 x1 x2 x3 x4 x5 x6 x7 x8 x9 x10 x11 x12]
  pointwise [val_main_v34]
  rfl

theorem v36_at (n : Fin 2050) (j : Fin 5632) : @Eq EReal (val_main_v36 (F := Ideal) x0 x1 x2 x3 x4 x5 x6 x7 x8 x9 (ix3 b n j)) (padded (model x0 x1 x2 x3 x4 x5 x6 x7 x8 x9 x10 x11 x12) b n.val j) := by
  have n2 := n.isLt
  unfold padded
  by_cases h : n.val < 2
  · rw [dif_neg (by omega)]
    pointwise [val_main_v36, val_main_v35, val_main_cst_6]
    rw [dif_pos h]
  · rw [dif_pos ⟨by omega, n2⟩, ← v34_at x0 x1 x2 x3 x4 x5 x6 x7 x8 x9 x10 x11 x12]
    generalize e : val_main_v34 (F := Ideal) x0 x1 x2 x3 x4 x5 x6 x7 x8 x9 = y
    pointwise [val_main_v36]
    rw [dif_neg h, e]

theorem v59_at (j : Fin 5632) : @Eq EReal (val_main_v59 (F := Ideal) x0 x1 x2 x3 x4 x5 x6 x7 x8 x9 x10 x11 (ix3 b s j))
    (conv (model x0 x1 x2 x3 x4 x5 x6 x7 x8 x9 x10 x11 x12).w (padded (model x0 x1 x2 x3 x4 x5 x6 x7 x8 x9 x10 x11 x12) b s.val) (padded (model x0 x1 x2 x3 x4 x5 x6 x7 x8 x9 x10 x11 x12) b (s.val + 1)) (upRow (model x0 x1 x2 x3 x4 x5 x6 x7 x8 x9 x10 x11 x12) b s) j) := by
  have e2 : upRow (model x0 x1 x2 x3 x4 x5 x6 x7 x8 x9 x10 x11 x12) b s = padded (model x0 x1 x2 x3 x4 x5 x6 x7 x8 x9 x10 x11 x12) b (s.val + 2) := by
    unfold padded
    rw [dif_pos ⟨by omega, by omega⟩]
    rfl
  have t0 := v36_at x0 x1 x2 x3 x4 x5 x6 x7 x8 x9 x10 x11 x12 b ⟨s.val, by omega⟩ j
  have t1 := v36_at x0 x1 x2 x3 x4 x5 x6 x7 x8 x9 x10 x11 x12 b ⟨s.val + 1, by omega⟩ j
  have t2 := v36_at x0 x1 x2 x3 x4 x5 x6 x7 x8 x9 x10 x11 x12 b ⟨s.val + 2, by omega⟩ j
  unfold conv
  rw [e2, ← t0, ← t1, ← t2]
  have k0 : @Eq EReal (val_main_v41 (F := Ideal) x10 (ix3 b s j)) (x10 (ix2 0 j)) := by pointwise [val_main_v41, val_main_v40, val_main_v38, val_main_v37]
  have k1 : @Eq EReal (val_main_v47 (F := Ideal) x10 (ix3 b s j)) (x10 (ix2 1 j)) := by pointwise [val_main_v47, val_main_v46, val_main_v44, val_main_v43]
  have k2 : @Eq EReal (val_main_v54 (F := Ideal) x10 (ix3 b s j)) (x10 (ix2 2 j)) := by pointwise [val_main_v54, val_main_v53, val_main_v51, val_main_v50]
  have k3 : @Eq EReal (val_main_v58 (F := Ideal) x11 (ix3 b s j)) (x11 (ix1 j)) := by pointwise [val_main_v58, val_main_v57]
  have s0 : val_main_v39 (F := Ideal) x0 x1 x2 x3 x4 x5 x6 x7 x8 x9 (ix3 b s j) = val_main_v36 (F := Ideal) x0 x1 x2 x3 x4 x5 x6 x7 x8 x9 (ix3 b ⟨s.val, by omega⟩ j) := by
    rw [val_main_v39_apply]; congr 1; blk_ext
  have s1 : val_main_v45 (F := Ideal) x0 x1 x2 x3 x4 x5 x6 x7 x8 x9 (ix3 b s j) = val_main_v36 (F := Ideal) x0 x1 x2 x3 x4 x5 x6 x7 x8 x9 (ix3 b ⟨s.val + 1, by omega⟩ j) := by
    rw [val_main_v45_apply]; congr 1; blk_ext
  have s2 : val_main_v52 (F := Ideal) x0 x1 x2 x3 x4 x5 x6 x7 x8 x9 (ix3 b s j) = val_main_v36 (F := Ideal) x0 x1 x2 x3 x4 x5 x6 x7 x8 x9 (ix3 b ⟨s.val + 2, by omega⟩ j) := by
    rw [val_main_v52_apply]; congr 1; blk_ext
  rw [val_main_v59_apply, val_main_v56_apply, val_main_v49_apply, val_main_v42_apply, val_main_v48_apply, val_main_v55_apply, k0, k1, k2, k3, s0, s1, s2]
  rfl

theorem v63_at (k : Fin 2816) : @Eq EReal (val_main_v63 (F := Ideal) x0 x1 x2 x3 x4 x5 x6 x7 x8 x9 x10 x11 (ix3 b s k))
    (act (model x0 x1 x2 x3 x4 x5 x6 x7 x8 x9 x10 x11 x12).w (padded (model x0 x1 x2 x3 x4 x5 x6 x7 x8 x9 x10 x11 x12) b s.val) (padded (model x0 x1 x2 x3 x4 x5 x6 x7 x8 x9 x10 x11 x12) b (s.val + 1)) (upRow (model x0 x1 x2 x3 x4 x5 x6 x7 x8 x9 x10 x11 x12) b s) k) := by
  unfold act
  rw [← v59_at x0 x1 x2 x3 x4 x5 x6 x7 x8 x9 x10 x11 x12, ← v59_at x0 x1 x2 x3 x4 x5 x6 x7 x8 x9 x10 x11 x12]
  generalize e : val_main_v59 (F := Ideal) x0 x1 x2 x3 x4 x5 x6 x7 x8 x9 x10 x11 = y
  have e0 : @Eq EReal (val_main_v60 (F := Ideal) x0 x1 x2 x3 x4 x5 x6 x7 x8 x9 x10 x11 (ix3 b s k)) (y (ix3 b s ⟨k.val, by omega⟩)) := by
    rw [val_main_v60_apply, e]; congr 1; blk_ext
  have e1 : @Eq EReal (val_main_v61 (F := Ideal) x0 x1 x2 x3 x4 x5 x6 x7 x8 x9 x10 x11 (ix3 b s k)) (y (ix3 b s ⟨2816 + k.val, by omega⟩)) := by
    rw [val_main_v61_apply, e]; congr 1; blk_ext
  rw [← e0, ← e1]
  pointwise [val_main_v63, val_main_v62, val_main_call0_v5, val_main_call0_v4, val_main_call0_v3, val_main_call0_v2, val_main_call0_v1, val_main_call0_v0, val_main_call0_cst, val_main_call0_cst_0]
  rfl

theorem v65_at (j : Fin 1024) : @Eq EReal (val_main_v65 (F := Ideal) x0 x1 x2 x3 x4 x5 x6 x7 x8 x9 x10 x11 x12 (ix3 b s j)) (outRow (model x0 x1 x2 x3 x4 x5 x6 x7 x8 x9 x10 x11 x12) b s j) := by
  have e : @Eq EReal (val_main_v64 (F := Ideal) x0 x1 x2 x3 x4 x5 x6 x7 x8 x9 x10 x11 x12 (ix3 b s j))
      (∑ k : Fin 2816, (val_main_v63 (F := Ideal) x0 x1 x2 x3 x4 x5 x6 x7 x8 x9 x10 x11 (ix3 b s k) : EReal) * x12 (ix2 k j)) := by pointwise [val_main_v64]
  rw [val_main_v65_apply, v20_at x0 x1 x2 x3 x4 x5 x6 x7 x8 x9 x10 x11 x12, e]
  simp only [v63_at x0 x1 x2 x3 x4 x5 x6 x7 x8 x9 x10 x11 x12]
  rfl

/-- The rows. -/
theorem v66_at (r : Fin 32768) (j : Fin 1024) : @Eq EReal (val_main_v66 (F := Ideal) x0 x1 x2 x3 x4 x5 x6 x7 x8 x9 x10 x11 x12 (ix2 r j))
    (outRow (model x0 x1 x2 x3 x4 x5 x6 x7 x8 x9 x10 x11 x12) ⟨r.val / 2048, by omega⟩ ⟨r.val % 2048, by omega⟩ j) := by
  rw [← v65_at]
  generalize e : val_main_v65 (F := Ideal) x0 x1 x2 x3 x4 x5 x6 x7 x8 x9 x10 x11 x12 = y
  pointwise [val_main_v66]
  rw [e]

/-- The last rows. -/
theorem v67_at (q : Fin 2) (j : Fin 5632) : @Eq EReal (val_main_v67 (F := Ideal) x0 x1 x2 x3 x4 x5 x6 x7 x8 x9 (ix3 b q j)) (padded (model x0 x1 x2 x3 x4 x5 x6 x7 x8 x9 x10 x11 x12) b (2048 + q.val) j) := by
  rw [val_main_v67_apply]
  refine Eq.trans (congrArg (val_main_v36 (F := Ideal) x0 x1 x2 x3 x4 x5 x6 x7 x8 x9) ?_) (v36_at x0 x1 x2 x3 x4 x5 x6 x7 x8 x9 x10 x11 x12 b ⟨2048 + q.val, by omega⟩ j)
  blk_ext

end Cert.MergeRefIdeal.Rows

end
-- ==== Proof.Merge.Final.lean ====
/- The two results are the reference's. -/
module

public import proofs.«01_k».proof.Proof.Merge.Exact
public import proofs.«01_k».proof.Proof.Merge.RefRead

@[expose] public section

set_option maxRecDepth 16384

noncomputable section

namespace Cert.MergeIdeal.Exact

open Idealize.ShloMosaic Idealize.ShloMosaic.TcCoe Idealize.SL.Sem Cert.MergeIdeal Cert.MergeIdeal.Gen Cert.MergeIdeal.Body Cert.MergeModel

variable (m : (ℓ : Loc nD τ sig) → Buf (Elt Ideal) ℓ) (c : Dev nD)

theorem final_rows : (dats m 0 c).arrAt 13 cfg0.N =
    Cert.MergeRefIdeal.Read.val_main_v66 (F := Ideal) (xArg m c) (oaArg m c) (obArg m c) (gaArg m c) (gbArg m c) (waArg m c) (wbArg m c)
      (woArg m c) (gArg m c) (wuArg m c) (cwArg m c) (cbArg m c) (wdArg m c) := by
  refine (dats m 0 c).arrAt_eq_of_covers 13 _ (by decide +kernel) fun t _ y => ?_
  blk_simp
  rw [after0_13]
  have hN := lt64 t
  have ey : (win0_13.blk t).view.emb y = ix2 ⟨512 * t.val + (y 0).val, ltRow t (y 0)⟩ (y 1) := by
    blk_ext [idx t]
  rw [ey]
  refine Eq.trans ?_ (Cert.MergeRefIdeal.Rows.v66_at _ _ _ _ _ _ _ _ _ _ _ _ _ _ _).symm
  rw [entry_eq t (y 0), token_eq t (y 0)]
  rfl

theorem final_last : (dats m 0 c).arrAt 14 cfg0.N =
    Cert.MergeRefIdeal.Read.val_main_v67 (F := Ideal) (xArg m c) (oaArg m c) (obArg m c) (gaArg m c) (gbArg m c) (waArg m c) (wbArg m c)
      (woArg m c) (gArg m c) (wuArg m c) := by
  refine (dats m 0 c).arrAt_eq_of_covers 14 _ (by decide +kernel) fun t hf y => ?_
  blk_simp
  rw [after0_14]
  have hN := lt64 t
  have h3 : t.val % 4 = 3 := (flush0_14 t).mp hf
  have ey : (win0_14.blk t).view.emb y = ix3 (entry t) (y 1) (y 2) := by
    blk_ext [idx t, entry]
  rw [ey]
  refine Eq.trans ?_ (Cert.MergeRefIdeal.Rows.v67_at (xArg m c) (oaArg m c) (obArg m c) (gaArg m c) (gbArg m c) (waArg m c) (wbArg m c)
      (woArg m c) (gArg m c) (wuArg m c) (cwArg m c) (cbArg m c) (wdArg m c) _ _ _).symm
  have h1 : (y 1).val < 2 := (y 1).isLt
  unfold lastsOf urT padded
  rw [dif_pos (by omega)]
  exact congrArg (fun s => upRow (args m c) (entry t) s (y 2)) (Fin.ext (by simp only [token]; omega))

end Cert.MergeIdeal.Exact

end
-- ==== Proof.Merge.Agree.lean ====
/- The kernel and its idealized text are one program, so its run at machine words is the same run. -/
module

public import proofs.«01_k».proof.Defs
public import proofs.«01_k».proof.Proof.Gen.Merge
public import proofs.«01_k».proof.Proof.Merge.Quiet

@[expose] public section

set_option maxRecDepth 65536

noncomputable section

namespace Cert.Merge.Agree

open Idealize.ShloMosaic Idealize.SL.Sem

/-- The claim, of the idealized text. -/
def Quiet : Prop :=
  ∀ (m : (ℓ : Loc Cert.MergeIdeal.nD Cert.MergeIdeal.τ Cert.MergeIdeal.sig) → Buf (Elt Bits) ℓ) (g : Dev Cert.MergeIdeal.nD → PrngReg), True →
    θ_run (Cert.MergeIdeal.defs (F := Bits)) (onTc (τ := Cert.MergeIdeal.τ) (Cert.MergeIdeal.main (F := Bits))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

theorem same : Quiet = Cert.quiescent_Merge (hMerge := Cert.Merge.Gen.facts) := by sl_kernel_rfl

theorem quiet : Cert.quiescent_Merge (hMerge := Cert.Merge.Gen.facts) :=
  same.mp fun m ρ _ => Cert.MergeIdeal.Quiet.frame (F := Bits) m ρ

end Cert.Merge.Agree

end
-- ==== Proof.lean ====
module

public import proofs.«01_k».proof.Proof.Gen.Merge
public import proofs.«01_k».proof.Proof.Gen.MergeIdeal
public import proofs.«01_k».proof.Proof.Gen.MergeRefIdeal.Read
public import proofs.«01_k».proof.Defs
public import proofs.«01_k».proof.Proof.Gen.Fox
public import proofs.«01_k».proof.Proof.Gen.Fox.Skeleton
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxRefIdeal
public import proofs.«01_k».proof.Proof.Gen.Pre_finite
public import proofs.«01_k».proof.Proof.Gen.FoxIdeal.Value
public import proofs.«01_k».proof.Proof.Gen.FoxRefIdeal.Run
public import proofs.«01_k».proof.Proof.Gen.FoxRefIdeal.Read
public import proofs.«01_k».proof.Proof.Fox.Final
public import proofs.«01_k».proof.Proof.Fox.Finite
public import proofs.«01_k».proof.Proof.Merge.Quiet
public import proofs.«01_k».proof.Proof.Merge.Final
public import proofs.«01_k».proof.Proof.Merge.Agree
public import Idealize.ShloMosaic.Lib.Quiescent
public import Idealize.ShloMosaic.Adequacy
public import Idealize.ShloMosaic.Init

@[expose] public section

noncomputable section

namespace Cert.Proof

open Idealize.ShloMosaic Idealize.SL.Sem Cert.Fox

theorem fox_ref_quiet : Cert.quiescent_FoxRefIdeal := fun m ρ _ =>
  (θ_run Cert.FoxRefIdeal.defs _ _).mono (fun r h => ⟨fun c => (h c).2, Idealize.ShloMosaic.sem_eq_zero_of_no_sems (by decide) r.2⟩)
    (Cert.FoxRefIdeal.Value.run (F := Ideal) m ρ)

theorem fox_equal : Cert.algebraic_FoxIdeal_FoxRefIdeal_pre_finite := by
  intro m ρ m' ρ' hpre hagree
  refine ⟨_, Cert.FoxIdeal.Value.run_blocks (F := Ideal) m ρ, ?_⟩
  refine (θ_run Cert.FoxRefIdeal.defs _ _).mono (fun _ h c => ⟨(h c).1.trans ?_, (h c).2⟩) (Cert.FoxRefIdeal.Value.run (F := Ideal) m' ρ')
  obtain ⟨h0, h1, h2⟩ := Cert.Pre_finite.Real.reals _ _ _ _ (hpre c)
  choose qR hq using h0
  choose cR hc using h1
  choose kR hk using h2
  rw [Cert.FoxIdeal.Attn.final m c hq hc hk, Cert.FoxRefIdeal.Read.val_main_v32_eq, (hagree c).1, (hagree c).2.1, (hagree c).2.2.1, (hagree c).2.2.2]

theorem merge_ref_quiet : Cert.quiescent_MergeRefIdeal := fun m ρ _ =>
  (θ_run Cert.MergeRefIdeal.defs _ _).mono (fun r h => ⟨fun c => (h c).2.2, Idealize.ShloMosaic.sem_eq_zero_of_no_sems (by decide) r.2⟩)
    (Cert.MergeRefIdeal.Value.run (F := Ideal) m ρ)

theorem merge_equal : Cert.algebraic_MergeIdeal_MergeRefIdeal := by
  intro m ρ m' ρ' _ hagree
  refine ⟨_, _, Cert.MergeIdeal.Exact.run_blocks m ρ, ?_⟩
  refine (θ_run Cert.MergeRefIdeal.defs _ _).mono (fun _ h c => ⟨(h c).1.trans ?_, (h c).2.1.trans ?_, (h c).2.2⟩) (Cert.MergeRefIdeal.Value.run (F := Ideal) m' ρ')
  · obtain ⟨h0, h1, h2, h3, h4, h5, h6, h7, h8, h9, h10, h11, h12⟩ := hagree c
    rw [Cert.MergeIdeal.Exact.final_rows m c, Cert.MergeRefIdeal.Read.val_main_v66_eq, h0, h1, h2, h3, h4, h5, h6, h7, h8, h9, h10, h11, h12]
  · obtain ⟨h0, h1, h2, h3, h4, h5, h6, h7, h8, h9, -⟩ := hagree c
    rw [Cert.MergeIdeal.Exact.final_last m c, Cert.MergeRefIdeal.Read.val_main_v67_eq, h0, h1, h2, h3, h4, h5, h6, h7, h8, h9]

theorem claim : Cert.Claim := ⟨Cert.Fox.Gen.facts, Cert.FoxIdeal.Gen.facts, Cert.FoxRefIdeal.Gen.facts,
  Cert.Merge.Gen.facts, Cert.MergeIdeal.Gen.facts, Cert.MergeRefIdeal.Gen.facts, Cert.Pre_finite.Gen.facts,
  fun m ρ _ => Cert.Fox.Gen.frame m ρ, fun m ρ _ => Cert.FoxIdeal.Gen.frame m ρ, fun m ρ _ => Cert.FoxIdeal.Gen.frame m ρ,
  fox_ref_quiet, fun m ρ _ => fox_ref_quiet m ρ trivial,
  Cert.Merge.Agree.quiet, fun m ρ _ => Cert.MergeIdeal.Quiet.frame m ρ, merge_ref_quiet,
  IdealRules.named_const.statement Cert.FoxIdeal.κ "mask" .f32 0xF149F2CA#32 ⊥ rfl, fox_equal, trivial, merge_equal⟩

end Cert.Proof

end
